-- ==== Defs.lean ====
def Pre_Kernel [hPre_words_in_range : Cert.Pre_words_in_range.Facts] (m : (ℓ : Loc Cert.Kernel.nD Cert.Kernel.τ Cert.Kernel.sig) → Buf (Elt Bits) ℓ) : Prop :=
  ∀ c : Dev Cert.Kernel.nD,
    (Cert.Pre_words_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_words_in_range : Cert.Pre_words_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_words_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_words_in_range [hPre_words_in_range : Cert.Pre_words_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_words_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] [hPre_words_in_range : Cert.Pre_words_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] [hPre_words_in_range : Cert.Pre_words_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_words_in_range [hReferenceIdeal : Cert.ReferenceIdeal.Facts] [hPre_words_in_range : Cert.Pre_words_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_words_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_words_in_range : Cert.Pre_words_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_words_in_range : Cert.Pre_words_in_range.Facts),
    quiescent_Kernel (hKernel := hKernel) (hPre_words_in_range := hPre_words_in_range)
    ∧ quiescent_KernelIdeal (hKernelIdeal := hKernelIdeal) (hPre_words_in_range := hPre_words_in_range)
    ∧ quiescent_ReferenceIdeal (hReferenceIdeal := hReferenceIdeal)
    ∧ quiescent_ReferenceIdeal_pre_words_in_range (hReferenceIdeal := hReferenceIdeal) (hPre_words_in_range := hPre_words_in_range)
    ∧ preserves_Kernel_KernelIdeal
    ∧ algebraic_KernelIdeal_ReferenceIdeal (hKernelIdeal := hKernelIdeal) (hReferenceIdeal := hReferenceIdeal) (hPre_words_in_range := hPre_words_in_range)
-- ==== Pre_words_in_range.lean ====
abbrev S1024x200 : Shape := ⟨2, ![1024, 200]⟩
abbrev S1000000x128 : Shape := ⟨2, ![1000000, 128]⟩
abbrev S512x128 : Shape := ⟨2, ![512, 128]⟩
abbrev S512 : Shape := ⟨1, ![512]⟩
abbrev S512x512 : Shape := ⟨2, ![512, 512]⟩
abbrev S1000x512 : Shape := ⟨2, ![1000, 512]⟩
abbrev S1000 : Shape := ⟨1, ![1000]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : IVec S1024x200 32) (main_arg1 : FVec F S1000000x128 .f32) (main_arg2 : FVec F S512x128 .f32) (main_arg3 : FVec F S512 .f32) (main_arg4 : FVec F S512 .f32) (main_arg5 : FVec F S512 .f32) (main_arg6 : FVec F S512 .f32) (main_arg7 : FVec F S512 .f32) (main_arg8 : FVec F S512x512 .f32) (main_arg9 : FVec F S512 .f32) (main_arg10 : FVec F S512 .f32) (main_arg11 : FVec F S512 .f32) (main_arg12 : FVec F S512 .f32) (main_arg13 : FVec F S512 .f32) (main_arg14 : FVec F S1000x512 .f32) (main_arg15 : FVec F S1000 .f32) (main_arg16 : FVec F S1000 .f32) (main_arg17 : FVec F S1000 .f32) (main_arg18 : FVec F S1000 .f32) (main_arg19 : FVec F S1000 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 1000000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  main_v5
-- ==== Kernel.lean ====
abbrev S1024x200 : Shape := ⟨2, ![1024, 200]⟩
abbrev S1000000x128 : Shape := ⟨2, ![1000000, 128]⟩
abbrev S512x128 : Shape := ⟨2, ![512, 128]⟩
abbrev S512 : Shape := ⟨1, ![512]⟩
abbrev S512x512 : Shape := ⟨2, ![512, 512]⟩
abbrev S1000x512 : Shape := ⟨2, ![1000, 512]⟩
abbrev S1000 : Shape := ⟨1, ![1000]⟩
abbrev S2048x100 : Shape := ⟨2, ![2048, 100]⟩
abbrev S1x512 : Shape := ⟨2, ![1, 512]⟩
abbrev S1x1000 : Shape := ⟨2, ![1, 1000]⟩
abbrev S1024x128 : Shape := ⟨2, ![1024, 128]⟩
abbrev S64x100 : Shape := ⟨2, ![64, 100]⟩
abbrev S100x128 : Shape := ⟨2, ![100, 128]⟩
abbrev S32x128 : Shape := ⟨2, ![32, 128]⟩
abbrev S_ : Shape := ⟨0, ![]⟩
abbrev S1x100 : Shape := ⟨2, ![1, 100]⟩
abbrev S100 : Shape := ⟨1, ![100]⟩
abbrev S1x16 : Shape := ⟨2, ![1, 16]⟩
abbrev S16 : Shape := ⟨1, ![16]⟩
abbrev S1024x1000 : Shape := ⟨2, ![1024, 1000]⟩
abbrev S512x1000 : Shape := ⟨2, ![512, 1000]⟩

abbrev nBuf : Table → Nat
  | .hbm => 38
  | .local .tc .vmem => 22
  | .local .scVector .vmem => 6
  | _ => 0

abbrev bufTy : (tb : Table) → Fin (nBuf tb) → BufTy
  | .hbm, ⟨0, _⟩ => ⟨S1024x200, .i32⟩
  | .hbm, ⟨1, _⟩ => ⟨S1000000x128, .f32⟩
  | .hbm, ⟨2, _⟩ => ⟨S512x128, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S1000x512, .f32⟩
  | .hbm, ⟨15, _⟩ => ⟨S1000, .f32⟩
  | .hbm, ⟨16, _⟩ => ⟨S1000, .f32⟩
  | .hbm, ⟨17, _⟩ => ⟨S1000, .f32⟩
  | .hbm, ⟨18, _⟩ => ⟨S1000, .f32⟩
  | .hbm, ⟨19, _⟩ => ⟨S1000, .f32⟩
  | .hbm, ⟨20, _⟩ => ⟨S2048x100, .i32⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S1x1000, .f32⟩
  | .hbm, ⟨32, _⟩ => ⟨S1x1000, .f32⟩
  | .hbm, ⟨33, _⟩ => ⟨S1x1000, .f32⟩
  | .hbm, ⟨34, _⟩ => ⟨S1x1000, .f32⟩
  | .hbm, ⟨35, _⟩ => ⟨S1x1000, .f32⟩
  | .hbm, ⟨36, _⟩ => ⟨S1024x128, .f32⟩
  | .hbm, ⟨37, _⟩ => ⟨S1024x1000, .f32⟩
  | .local .tc .vmem, ⟨0, _⟩ => ⟨S512x128, .f32⟩
  | .local .tc .vmem, ⟨1, _⟩ => ⟨S512x128, .f32⟩
  | .local .tc .vmem, ⟨2, _⟩ => ⟨S512x128, .f32⟩
  | .local .tc .vmem, ⟨3, _⟩ => ⟨S512x512, .f32⟩
  | .local .tc .vmem, ⟨4, _⟩ => ⟨S1000x512, .f32⟩
  | .local .tc .vmem, ⟨5, _⟩ => ⟨S1x512, .f32⟩
  | .local .tc .vmem, ⟨6, _⟩ => ⟨S1x512, .f32⟩
  | .local .tc .vmem, ⟨7, _⟩ => ⟨S1x512, .f32⟩
  | .local .tc .vmem, ⟨8, _⟩ => ⟨S1x512, .f32⟩
  | .local .tc .vmem, ⟨9, _⟩ => ⟨S1x512, .f32⟩
  | .local .tc .vmem, ⟨10, _⟩ => ⟨S1x512, .f32⟩
  | .local .tc .vmem, ⟨11, _⟩ => ⟨S1x512, .f32⟩
  | .local .tc .vmem, ⟨12, _⟩ => ⟨S1x512, .f32⟩
  | .local .tc .vmem, ⟨13, _⟩ => ⟨S1x512, .f32⟩
  | .local .tc .vmem, ⟨14, _⟩ => ⟨S1x512, .f32⟩
  | .local .tc .vmem, ⟨15, _⟩ => ⟨S1x1000, .f32⟩
  | .local .tc .vmem, ⟨16, _⟩ => ⟨S1x1000, .f32⟩
  | .local .tc .vmem, ⟨17, _⟩ => ⟨S1x1000, .f32⟩
  | .local .tc .vmem, ⟨18, _⟩ => ⟨S1x1000, .f32⟩
  | .local .tc .vmem, ⟨19, _⟩ => ⟨S1x1000, .f32⟩
  | .local .tc .vmem, ⟨20, _⟩ => ⟨S512x1000, .f32⟩
  | .local .tc .vmem, ⟨21, _⟩ => ⟨S512x1000, .f32⟩
  | .local .scVector .vmem, ⟨0, _⟩ => ⟨S64x100, .i32⟩
  | .local .scVector .vmem, ⟨1, _⟩ => ⟨S100x128, .f32⟩
  | .local .scVector .vmem, ⟨2, _⟩ => ⟨S100x128, .f32⟩
  | .local .scVector .vmem, ⟨3, _⟩ => ⟨S100x128, .f32⟩
  | .local .scVector .vmem, ⟨4, _⟩ => ⟨S100x128, .f32⟩
  | .local .scVector .vmem, ⟨5, _⟩ => ⟨S32x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v0_scv : Ref sig .scVector := ⟨.hbm, 20, rfl⟩
abbrev main_arg1_scv : Ref sig .scVector := ⟨.hbm, 1, rfl⟩
abbrev main_v16_scv : Ref sig .scVector := ⟨.hbm, 36, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg8_0 : Ref sig .tc := ⟨.vmem, 9, rfl⟩
abbrev cc1_stg9_0 : Ref sig .tc := ⟨.vmem, 10, rfl⟩
abbrev cc1_stg10_0 : Ref sig .tc := ⟨.vmem, 11, rfl⟩
abbrev cc1_stg11_0 : Ref sig .tc := ⟨.vmem, 12, rfl⟩
abbrev cc1_stg12_0 : Ref sig .tc := ⟨.vmem, 13, rfl⟩
abbrev cc1_stg13_0 : Ref sig .tc := ⟨.vmem, 14, rfl⟩
abbrev cc1_stg14_0 : Ref sig .tc := ⟨.vmem, 15, rfl⟩
abbrev cc1_stg15_0 : Ref sig .tc := ⟨.vmem, 16, rfl⟩
abbrev cc1_stg16_0 : Ref sig .tc := ⟨.vmem, 17, rfl⟩
abbrev cc1_stg17_0 : Ref sig .tc := ⟨.vmem, 18, rfl⟩
abbrev cc1_stg18_0 : Ref sig .tc := ⟨.vmem, 19, rfl⟩
abbrev cc1_stg19_0 : Ref sig .tc := ⟨.vmem, 20, rfl⟩
abbrev cc1_stg19_1 : Ref sig .tc := ⟨.vmem, 21, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem14_0 : DmaSem sig := 21
abbrev cc1_sem15_0 : DmaSem sig := 22
abbrev cc1_sem16_0 : DmaSem sig := 23
abbrev cc1_sem17_0 : DmaSem sig := 24
abbrev cc1_sem18_0 : DmaSem sig := 25
abbrev cc1_sem19_0 : DmaSem sig := 26
abbrev cc1_sem19_1 : DmaSem sig := 27
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_0 : BitVec 32 := 2#32
  let v3 : BitVec 32 := Scalar.muli v2 c2_i32_0
  let c0_i32_17_r0 : BitVec 32 := 0#32
  ![v3.toNat, 0]
@[reducible] def k0_t1_loop : Scf.Loop 32 :=
  let c0_i32_14 : BitVec 32 := 0#32
  let c16_i32 : BitVec 32 := 16#32
  let v16 : BitVec 32 := Scalar.addi c0_i32_14 c16_i32
  let c1_i32_15 : BitVec 32 := 1#32
  ⟨c0_i32_14, v16, c1_i32_15⟩
def k0_off2 (k0_t1 : Fin k0_t1_loop.trips) (c0_i32_18 : BitVec 32) : Fin 2 → Nat :=
  let c0_i32_17 : BitVec 32 := 0#32
  let c0_i32_14 : BitVec 32 := 0#32
  let c1_i32_15 : BitVec 32 := 1#32
  let arg15 : BitVec 32 := Scf.iv c0_i32_14 c1_i32_15 k0_t1
  let c4_i32 : BitVec 32 := 4#32
  let v17 : BitVec 32 := Scalar.muli arg15 c4_i32
  let v18 : BitVec 32 := Scalar.addi c0_i32_17 v17
  let v19 : BitVec 32 := Scalar.addi v18 c0_i32_18
  let c0_i32_19 : BitVec 32 := 0#32
  ![v19.toNat, 0]
@[reducible] def k0_t2_loop : Scf.Loop 32 :=
  let c1_i32_30 : BitVec 32 := 1#32
  let c99_i32 : BitVec 32 := 99#32
  let v47 : BitVec 32 := Scalar.addi c1_i32_30 c99_i32
  let c1_i32_31 : BitVec 32 := 1#32
  ⟨c1_i32_30, v47, c1_i32_31⟩
def k0_off3 (k0_t2 : Fin k0_t2_loop.trips) : Fin 2 → Nat :=
  let c1_i32_30 : BitVec 32 := 1#32
  let c1_i32_31 : BitVec 32 := 1#32
  let arg16 : BitVec 32 := Scf.iv c1_i32_30 c1_i32_31 k0_t2
  let v419 : Index := Scalar.indexCast arg16
  let c0_196 : Index := 0#32
  ![v419.toNat, 0]
def k0_off4 (k0_t2 : Fin k0_t2_loop.trips) : Fin 2 → Nat :=
  let c1_i32_30 : BitVec 32 := 1#32
  let c1_i32_31 : BitVec 32 := 1#32
  let arg16 : BitVec 32 := Scf.iv c1_i32_30 c1_i32_31 k0_t2
  let v423 : Index := Scalar.indexCast arg16
  let c16_197 : Index := 16#32
  ![v423.toNat, 16]
def k0_off5 (k0_t2 : Fin k0_t2_loop.trips) : Fin 2 → Nat :=
  let c1_i32_30 : BitVec 32 := 1#32
  let c1_i32_31 : BitVec 32 := 1#32
  let arg16 : BitVec 32 := Scf.iv c1_i32_30 c1_i32_31 k0_t2
  let v427 : Index := Scalar.indexCast arg16
  let c32_198 : Index := 32#32
  ![v427.toNat, 32]
def k0_off6 (k0_t2 : Fin k0_t2_loop.trips) : Fin 2 → Nat :=
  let c1_i32_30 : BitVec 32 := 1#32
  let c1_i32_31 : BitVec 32 := 1#32
  let arg16 : BitVec 32 := Scf.iv c1_i32_30 c1_i32_31 k0_t2
  let v431 : Index := Scalar.indexCast arg16
  let c48_199 : Index := 48#32
  ![v431.toNat, 48]
def k0_off7 (k0_t2 : Fin k0_t2_loop.trips) : Fin 2 → Nat :=
  let c1_i32_30 : BitVec 32 := 1#32
  let c1_i32_31 : BitVec 32 := 1#32
  let arg16 : BitVec 32 := Scf.iv c1_i32_30 c1_i32_31 k0_t2
  let v435 : Index := Scalar.indexCast arg16
  let c64_200 : Index := 64#32
  ![v435.toNat, 64]
def k0_off8 (k0_t2 : Fin k0_t2_loop.trips) : Fin 2 → Nat :=
  let c1_i32_30 : BitVec 32 := 1#32
  let c1_i32_31 : BitVec 32 := 1#32
  let arg16 : BitVec 32 := Scf.iv c1_i32_30 c1_i32_31 k0_t2
  let v439 : Index := Scalar.indexCast arg16
  let c80_201 : Index := 80#32
  ![v439.toNat, 80]
def k0_off9 (k0_t2 : Fin k0_t2_loop.trips) : Fin 2 → Nat :=
  let c1_i32_30 : BitVec 32 := 1#32
  let c1_i32_31 : BitVec 32 := 1#32
  let arg16 : BitVec 32 := Scf.iv c1_i32_30 c1_i32_31 k0_t2
  let v443 : Index := Scalar.indexCast arg16
  let c96_202 : Index := 96#32
  ![v443.toNat, 96]
def k0_off10 (k0_t2 : Fin k0_t2_loop.trips) : Fin 2 → Nat :=
  let c1_i32_30 : BitVec 32 := 1#32
  let c1_i32_31 : BitVec 32 := 1#32
  let arg16 : BitVec 32 := Scf.iv c1_i32_30 c1_i32_31 k0_t2
  let v447 : Index := Scalar.indexCast arg16
  let c112_203 : Index := 112#32
  ![v447.toNat, 112]
def k0_off11 (k0_t1 : Fin k0_t1_loop.trips) (c0_i32_18 : BitVec 32) : Fin 2 → Nat :=
  let c0_i32_17 : BitVec 32 := 0#32
  let c0_i32_14 : BitVec 32 := 0#32
  let c1_i32_15 : BitVec 32 := 1#32
  let arg15 : BitVec 32 := Scf.iv c0_i32_14 c1_i32_15 k0_t1
  let c4_i32 : BitVec 32 := 4#32
  let v17 : BitVec 32 := Scalar.muli arg15 c4_i32
  let v18 : BitVec 32 := Scalar.addi c0_i32_17 v17
  let v19 : BitVec 32 := Scalar.addi v18 c0_i32_18
  let c0_i32_34 : BitVec 32 := 0#32
  let v50 : BitVec 1 := Scalar.cmpi .sgt v19 c0_i32_34
  let v51 : BitVec 32 := Scalar.extui v50
  let c0_i32_35 : BitVec 32 := 0#32
  let v52 : BitVec 1 := Scalar.cmpi .slt v19 c0_i32_35
  let v53 : BitVec 32 := Scalar.extui v52
  let v54 : BitVec 32 := Scalar.subi v51 v53
  let c2_i32_33 : BitVec 32 := 2#32
  let c0_i32_36 : BitVec 32 := 0#32
  let v55 : BitVec 1 := Scalar.cmpi .sgt c2_i32_33 c0_i32_36
  let v56 : BitVec 32 := Scalar.extui v55
  let c0_i32_37 : BitVec 32 := 0#32
  let v57 : BitVec 1 := Scalar.cmpi .slt c2_i32_33 c0_i32_37
  let v58 : BitVec 32 := Scalar.extui v57
  let v59 : BitVec 32 := Scalar.subi v56 v58
  let v60 : BitVec 1 := Scalar.cmpi .ne v54 v59
  let v61 : BitVec 32 := Scalar.remsi v19 c2_i32_33
  let c0_i32_38 : BitVec 32 := 0#32
  let v62 : BitVec 1 := Scalar.cmpi .ne v61 c0_i32_38
  let v63 : BitVec 1 := Scalar.andi v60 v62
  let v49 : BitVec 32 := Scalar.divsi v19 c2_i32_33
  let c1_i32_39 : BitVec 32 := 1#32
  let v64 : BitVec 32 := Scalar.subi v49 c1_i32_39
  let v65 : BitVec 32 := Scalar.select v63 v64 v49
  let v66 : Index := Scalar.indexCast v65
  let c0_40 : Index := 0#32
  ![v66.toNat, 0]
def k0_off12 (k0_t1 : Fin k0_t1_loop.trips) (c0_i32_18 : BitVec 32) : Fin 2 → Nat :=
  let c0_i32_17 : BitVec 32 := 0#32
  let c0_i32_14 : BitVec 32 := 0#32
  let c1_i32_15 : BitVec 32 := 1#32
  let arg15 : BitVec 32 := Scf.iv c0_i32_14 c1_i32_15 k0_t1
  let c4_i32 : BitVec 32 := 4#32
  let v17 : BitVec 32 := Scalar.muli arg15 c4_i32
  let v18 : BitVec 32 := Scalar.addi c0_i32_17 v17
  let v19 : BitVec 32 := Scalar.addi v18 c0_i32_18
  let c0_i32_34 : BitVec 32 := 0#32
  let v50 : BitVec 1 := Scalar.cmpi .sgt v19 c0_i32_34
  let v51 : BitVec 32 := Scalar.extui v50
  let c0_i32_35 : BitVec 32 := 0#32
  let v52 : BitVec 1 := Scalar.cmpi .slt v19 c0_i32_35
  let v53 : BitVec 32 := Scalar.extui v52
  let v54 : BitVec 32 := Scalar.subi v51 v53
  let c2_i32_33 : BitVec 32 := 2#32
  let c0_i32_36 : BitVec 32 := 0#32
  let v55 : BitVec 1 := Scalar.cmpi .sgt c2_i32_33 c0_i32_36
  let v56 : BitVec 32 := Scalar.extui v55
  let c0_i32_37 : BitVec 32 := 0#32
  let v57 : BitVec 1 := Scalar.cmpi .slt c2_i32_33 c0_i32_37
  let v58 : BitVec 32 := Scalar.extui v57
  let v59 : BitVec 32 := Scalar.subi v56 v58
  let v60 : BitVec 1 := Scalar.cmpi .ne v54 v59
  let v61 : BitVec 32 := Scalar.remsi v19 c2_i32_33
  let c0_i32_38 : BitVec 32 := 0#32
  let v62 : BitVec 1 := Scalar.cmpi .ne v61 c0_i32_38
  let v63 : BitVec 1 := Scalar.andi v60 v62
  let v49 : BitVec 32 := Scalar.divsi v19 c2_i32_33
  let c1_i32_39 : BitVec 32 := 1#32
  let v64 : BitVec 32 := Scalar.subi v49 c1_i32_39
  let v65 : BitVec 32 := Scalar.select v63 v64 v49
  let v70 : Index := Scalar.indexCast v65
  let c16_41 : Index := 16#32
  ![v70.toNat, 16]
def k0_off13 (k0_t1 : Fin k0_t1_loop.trips) (c0_i32_18 : BitVec 32) : Fin 2 → Nat :=
  let c0_i32_17 : BitVec 32 := 0#32
  let c0_i32_14 : BitVec 32 := 0#32
  let c1_i32_15 : BitVec 32 := 1#32
  let arg15 : BitVec 32 := Scf.iv c0_i32_14 c1_i32_15 k0_t1
  let c4_i32 : BitVec 32 := 4#32
  let v17 : BitVec 32 := Scalar.muli arg15 c4_i32
  let v18 : BitVec 32 := Scalar.addi c0_i32_17 v17
  let v19 : BitVec 32 := Scalar.addi v18 c0_i32_18
  let c0_i32_34 : BitVec 32 := 0#32
  let v50 : BitVec 1 := Scalar.cmpi .sgt v19 c0_i32_34
  let v51 : BitVec 32 := Scalar.extui v50
  let c0_i32_35 : BitVec 32 := 0#32
  let v52 : BitVec 1 := Scalar.cmpi .slt v19 c0_i32_35
  let v53 : BitVec 32 := Scalar.extui v52
  let v54 : BitVec 32 := Scalar.subi v51 v53
  let c2_i32_33 : BitVec 32 := 2#32
  let c0_i32_36 : BitVec 32 := 0#32
  let v55 : BitVec 1 := Scalar.cmpi .sgt c2_i32_33 c0_i32_36
  let v56 : BitVec 32 := Scalar.extui v55
  let c0_i32_37 : BitVec 32 := 0#32
  let v57 : BitVec 1 := Scalar.cmpi .slt c2_i32_33 c0_i32_37
  let v58 : BitVec 32 := Scalar.extui v57
  let v59 : BitVec 32 := Scalar.subi v56 v58
  let v60 : BitVec 1 := Scalar.cmpi .ne v54 v59
  let v61 : BitVec 32 := Scalar.remsi v19 c2_i32_33
  let c0_i32_38 : BitVec 32 := 0#32
  let v62 : BitVec 1 := Scalar.cmpi .ne v61 c0_i32_38
  let v63 : BitVec 1 := Scalar.andi v60 v62
  let v49 : BitVec 32 := Scalar.divsi v19 c2_i32_33
  let c1_i32_39 : BitVec 32 := 1#32
  let v64 : BitVec 32 := Scalar.subi v49 c1_i32_39
  let v65 : BitVec 32 := Scalar.select v63 v64 v49
  let v74 : Index := Scalar.indexCast v65
  let c32_42 : Index := 32#32
  ![v74.toNat, 32]
def k0_off14 (k0_t1 : Fin k0_t1_loop.trips) (c0_i32_18 : BitVec 32) : Fin 2 → Nat :=
  let c0_i32_17 : BitVec 32 := 0#32
  let c0_i32_14 : BitVec 32 := 0#32
  let c1_i32_15 : BitVec 32 := 1#32
  let arg15 : BitVec 32 := Scf.iv c0_i32_14 c1_i32_15 k0_t1
  let c4_i32 : BitVec 32 := 4#32
  let v17 : BitVec 32 := Scalar.muli arg15 c4_i32
  let v18 : BitVec 32 := Scalar.addi c0_i32_17 v17
  let v19 : BitVec 32 := Scalar.addi v18 c0_i32_18
  let c0_i32_34 : BitVec 32 := 0#32
  let v50 : BitVec 1 := Scalar.cmpi .sgt v19 c0_i32_34
  let v51 : BitVec 32 := Scalar.extui v50
  let c0_i32_35 : BitVec 32 := 0#32
  let v52 : BitVec 1 := Scalar.cmpi .slt v19 c0_i32_35
  let v53 : BitVec 32 := Scalar.extui v52
  let v54 : BitVec 32 := Scalar.subi v51 v53
  let c2_i32_33 : BitVec 32 := 2#32
  let c0_i32_36 : BitVec 32 := 0#32
  let v55 : BitVec 1 := Scalar.cmpi .sgt c2_i32_33 c0_i32_36
  let v56 : BitVec 32 := Scalar.extui v55
  let c0_i32_37 : BitVec 32 := 0#32
  let v57 : BitVec 1 := Scalar.cmpi .slt c2_i32_33 c0_i32_37
  let v58 : BitVec 32 := Scalar.extui v57
  let v59 : BitVec 32 := Scalar.subi v56 v58
  let v60 : BitVec 1 := Scalar.cmpi .ne v54 v59
  let v61 : BitVec 32 := Scalar.remsi v19 c2_i32_33
  let c0_i32_38 : BitVec 32 := 0#32
  let v62 : BitVec 1 := Scalar.cmpi .ne v61 c0_i32_38
  let v63 : BitVec 1 := Scalar.andi v60 v62
  let v49 : BitVec 32 := Scalar.divsi v19 c2_i32_33
  let c1_i32_39 : BitVec 32 := 1#32
  let v64 : BitVec 32 := Scalar.subi v49 c1_i32_39
  let v65 : BitVec 32 := Scalar.select v63 v64 v49
  let v78 : Index := Scalar.indexCast v65
  let c48_43 : Index := 48#32
  ![v78.toNat, 48]
def k0_off15 (k0_t1 : Fin k0_t1_loop.trips) (c0_i32_18 : BitVec 32) : Fin 2 → Nat :=
  let c0_i32_17 : BitVec 32 := 0#32
  let c0_i32_14 : BitVec 32 := 0#32
  let c1_i32_15 : BitVec 32 := 1#32
  let arg15 : BitVec 32 := Scf.iv c0_i32_14 c1_i32_15 k0_t1
  let c4_i32 : BitVec 32 := 4#32
  let v17 : BitVec 32 := Scalar.muli arg15 c4_i32
  let v18 : BitVec 32 := Scalar.addi c0_i32_17 v17
  let v19 : BitVec 32 := Scalar.addi v18 c0_i32_18
  let c0_i32_34 : BitVec 32 := 0#32
  let v50 : BitVec 1 := Scalar.cmpi .sgt v19 c0_i32_34
  let v51 : BitVec 32 := Scalar.extui v50
  let c0_i32_35 : BitVec 32 := 0#32
  let v52 : BitVec 1 := Scalar.cmpi .slt v19 c0_i32_35
  let v53 : BitVec 32 := Scalar.extui v52
  let v54 : BitVec 32 := Scalar.subi v51 v53
  let c2_i32_33 : BitVec 32 := 2#32
  let c0_i32_36 : BitVec 32 := 0#32
  let v55 : BitVec 1 := Scalar.cmpi .sgt c2_i32_33 c0_i32_36
  let v56 : BitVec 32 := Scalar.extui v55
  let c0_i32_37 : BitVec 32 := 0#32
  let v57 : BitVec 1 := Scalar.cmpi .slt c2_i32_33 c0_i32_37
  let v58 : BitVec 32 := Scalar.extui v57
  let v59 : BitVec 32 := Scalar.subi v56 v58
  let v60 : BitVec 1 := Scalar.cmpi .ne v54 v59
  let v61 : BitVec 32 := Scalar.remsi v19 c2_i32_33
  let c0_i32_38 : BitVec 32 := 0#32
  let v62 : BitVec 1 := Scalar.cmpi .ne v61 c0_i32_38
  let v63 : BitVec 1 := Scalar.andi v60 v62
  let v49 : BitVec 32 := Scalar.divsi v19 c2_i32_33
  let c1_i32_39 : BitVec 32 := 1#32
  let v64 : BitVec 32 := Scalar.subi v49 c1_i32_39
  let v65 : BitVec 32 := Scalar.select v63 v64 v49
  let v82 : Index := Scalar.indexCast v65
  let c64_44 : Index := 64#32
  ![v82.toNat, 64]
def k0_off16 (k0_t1 : Fin k0_t1_loop.trips) (c0_i32_18 : BitVec 32) : Fin 2 → Nat :=
  let c0_i32_17 : BitVec 32 := 0#32
  let c0_i32_14 : BitVec 32 := 0#32
  let c1_i32_15 : BitVec 32 := 1#32
  let arg15 : BitVec 32 := Scf.iv c0_i32_14 c1_i32_15 k0_t1
  let c4_i32 : BitVec 32 := 4#32
  let v17 : BitVec 32 := Scalar.muli arg15 c4_i32
  let v18 : BitVec 32 := Scalar.addi c0_i32_17 v17
  let v19 : BitVec 32 := Scalar.addi v18 c0_i32_18
  let c0_i32_34 : BitVec 32 := 0#32
  let v50 : BitVec 1 := Scalar.cmpi .sgt v19 c0_i32_34
  let v51 : BitVec 32 := Scalar.extui v50
  let c0_i32_35 : BitVec 32 := 0#32
  let v52 : BitVec 1 := Scalar.cmpi .slt v19 c0_i32_35
  let v53 : BitVec 32 := Scalar.extui v52
  let v54 : BitVec 32 := Scalar.subi v51 v53
  let c2_i32_33 : BitVec 32 := 2#32
  let c0_i32_36 : BitVec 32 := 0#32
  let v55 : BitVec 1 := Scalar.cmpi .sgt c2_i32_33 c0_i32_36
  let v56 : BitVec 32 := Scalar.extui v55
  let c0_i32_37 : BitVec 32 := 0#32
  let v57 : BitVec 1 := Scalar.cmpi .slt c2_i32_33 c0_i32_37
  let v58 : BitVec 32 := Scalar.extui v57
  let v59 : BitVec 32 := Scalar.subi v56 v58
  let v60 : BitVec 1 := Scalar.cmpi .ne v54 v59
  let v61 : BitVec 32 := Scalar.remsi v19 c2_i32_33
  let c0_i32_38 : BitVec 32 := 0#32
  let v62 : BitVec 1 := Scalar.cmpi .ne v61 c0_i32_38
  let v63 : BitVec 1 := Scalar.andi v60 v62
  let v49 : BitVec 32 := Scalar.divsi v19 c2_i32_33
  let c1_i32_39 : BitVec 32 := 1#32
  let v64 : BitVec 32 := Scalar.subi v49 c1_i32_39
  let v65 : BitVec 32 := Scalar.select v63 v64 v49
  let v86 : Index := Scalar.indexCast v65
  let c80_45 : Index := 80#32
  ![v86.toNat, 80]
def k0_off17 (k0_t1 : Fin k0_t1_loop.trips) (c0_i32_18 : BitVec 32) : Fin 2 → Nat :=
  let c0_i32_17 : BitVec 32 := 0#32
  let c0_i32_14 : BitVec 32 := 0#32
  let c1_i32_15 : BitVec 32 := 1#32
  let arg15 : BitVec 32 := Scf.iv c0_i32_14 c1_i32_15 k0_t1
  let c4_i32 : BitVec 32 := 4#32
  let v17 : BitVec 32 := Scalar.muli arg15 c4_i32
  let v18 : BitVec 32 := Scalar.addi c0_i32_17 v17
  let v19 : BitVec 32 := Scalar.addi v18 c0_i32_18
  let c0_i32_34 : BitVec 32 := 0#32
  let v50 : BitVec 1 := Scalar.cmpi .sgt v19 c0_i32_34
  let v51 : BitVec 32 := Scalar.extui v50
  let c0_i32_35 : BitVec 32 := 0#32
  let v52 : BitVec 1 := Scalar.cmpi .slt v19 c0_i32_35
  let v53 : BitVec 32 := Scalar.extui v52
  let v54 : BitVec 32 := Scalar.subi v51 v53
  let c2_i32_33 : BitVec 32 := 2#32
  let c0_i32_36 : BitVec 32 := 0#32
  let v55 : BitVec 1 := Scalar.cmpi .sgt c2_i32_33 c0_i32_36
  let v56 : BitVec 32 := Scalar.extui v55
  let c0_i32_37 : BitVec 32 := 0#32
  let v57 : BitVec 1 := Scalar.cmpi .slt c2_i32_33 c0_i32_37
  let v58 : BitVec 32 := Scalar.extui v57
  let v59 : BitVec 32 := Scalar.subi v56 v58
  let v60 : BitVec 1 := Scalar.cmpi .ne v54 v59
  let v61 : BitVec 32 := Scalar.remsi v19 c2_i32_33
  let c0_i32_38 : BitVec 32 := 0#32
  let v62 : BitVec 1 := Scalar.cmpi .ne v61 c0_i32_38
  let v63 : BitVec 1 := Scalar.andi v60 v62
  let v49 : BitVec 32 := Scalar.divsi v19 c2_i32_33
  let c1_i32_39 : BitVec 32 := 1#32
  let v64 : BitVec 32 := Scalar.subi v49 c1_i32_39
  let v65 : BitVec 32 := Scalar.select v63 v64 v49
  let v90 : Index := Scalar.indexCast v65
  let c96_46 : Index := 96#32
  ![v90.toNat, 96]
def k0_off18 (k0_t1 : Fin k0_t1_loop.trips) (c0_i32_18 : BitVec 32) : Fin 2 → Nat :=
  let c0_i32_17 : BitVec 32 := 0#32
  let c0_i32_14 : BitVec 32 := 0#32
  let c1_i32_15 : BitVec 32 := 1#32
  let arg15 : BitVec 32 := Scf.iv c0_i32_14 c1_i32_15 k0_t1
  let c4_i32 : BitVec 32 := 4#32
  let v17 : BitVec 32 := Scalar.muli arg15 c4_i32
  let v18 : BitVec 32 := Scalar.addi c0_i32_17 v17
  let v19 : BitVec 32 := Scalar.addi v18 c0_i32_18
  let c0_i32_34 : BitVec 32 := 0#32
  let v50 : BitVec 1 := Scalar.cmpi .sgt v19 c0_i32_34
  let v51 : BitVec 32 := Scalar.extui v50
  let c0_i32_35 : BitVec 32 := 0#32
  let v52 : BitVec 1 := Scalar.cmpi .slt v19 c0_i32_35
  let v53 : BitVec 32 := Scalar.extui v52
  let v54 : BitVec 32 := Scalar.subi v51 v53
  let c2_i32_33 : BitVec 32 := 2#32
  let c0_i32_36 : BitVec 32 := 0#32
  let v55 : BitVec 1 := Scalar.cmpi .sgt c2_i32_33 c0_i32_36
  let v56 : BitVec 32 := Scalar.extui v55
  let c0_i32_37 : BitVec 32 := 0#32
  let v57 : BitVec 1 := Scalar.cmpi .slt c2_i32_33 c0_i32_37
  let v58 : BitVec 32 := Scalar.extui v57
  let v59 : BitVec 32 := Scalar.subi v56 v58
  let v60 : BitVec 1 := Scalar.cmpi .ne v54 v59
  let v61 : BitVec 32 := Scalar.remsi v19 c2_i32_33
  let c0_i32_38 : BitVec 32 := 0#32
  let v62 : BitVec 1 := Scalar.cmpi .ne v61 c0_i32_38
  let v63 : BitVec 1 := Scalar.andi v60 v62
  let v49 : BitVec 32 := Scalar.divsi v19 c2_i32_33
  let c1_i32_39 : BitVec 32 := 1#32
  let v64 : BitVec 32 := Scalar.subi v49 c1_i32_39
  let v65 : BitVec 32 := Scalar.select v63 v64 v49
  let v94 : Index := Scalar.indexCast v65
  let c112_47 : Index := 112#32
  ![v94.toNat, 112]
def k0_cond1 (k0_t1 : Fin k0_t1_loop.trips) : BitVec 1 :=
  let c0_i32_17 : BitVec 32 := 0#32
  let c0_i32_14 : BitVec 32 := 0#32
  let c1_i32_15 : BitVec 32 := 1#32
  let arg15 : BitVec 32 := Scf.iv c0_i32_14 c1_i32_15 k0_t1
  let c4_i32 : BitVec 32 := 4#32
  let v17 : BitVec 32 := Scalar.muli arg15 c4_i32
  let v18 : BitVec 32 := Scalar.addi c0_i32_17 v17
  let c0_i32_48 : BitVec 32 := 0#32
  let v98 : BitVec 32 := Scalar.addi v18 c0_i32_48
  let c4_i32_49 : BitVec 32 := 4#32
  let v99 : BitVec 32 := Scalar.addi v98 c4_i32_49
  let c64_i32 : BitVec 32 := 64#32
  let v100 : BitVec 1 := Scalar.cmpi .slt v99 c64_i32
  let v101 : BitVec 32 := Scalar.extui v100
  let c0_i32_50 : BitVec 32 := 0#32
  let v102 : BitVec 1 := Scalar.cmpi .ne v101 c0_i32_50
  v102

def k0_off19 (k0_t1 : Fin k0_t1_loop.trips) : Fin 2 → Nat :=
  let c0_i32_17 : BitVec 32 := 0#32
  let c0_i32_14 : BitVec 32 := 0#32
  let c1_i32_15 : BitVec 32 := 1#32
  let arg15 : BitVec 32 := Scf.iv c0_i32_14 c1_i32_15 k0_t1
  let c4_i32 : BitVec 32 := 4#32
  let v17 : BitVec 32 := Scalar.muli arg15 c4_i32
  let v18 : BitVec 32 := Scalar.addi c0_i32_17 v17
  let c0_i32_196 : BitVec 32 := 0#32
  let v419 : BitVec 32 := Scalar.addi v18 c0_i32_196
  let c4_i32_197 : BitVec 32 := 4#32
  let v420 : BitVec 32 := Scalar.addi v419 c4_i32_197
  let c0_i32_198 : BitVec 32 := 0#32
  ![v420.toNat, 0]
@[reducible] def k0_t3_loop : Scf.Loop 32 :=
  let c1_i32_71 : BitVec 32 := 1#32
  let c99_i32_72 : BitVec 32 := 99#32
  let v131 : BitVec 32 := Scalar.addi c1_i32_71 c99_i32_72
  let c1_i32_73 : BitVec 32 := 1#32
  ⟨c1_i32_71, v131, c1_i32_73⟩
def k0_off20 (k0_t3 : Fin k0_t3_loop.trips) : Fin 2 → Nat :=
  let c1_i32_71 : BitVec 32 := 1#32
  let c1_i32_73 : BitVec 32 := 1#32
  let arg16 : BitVec 32 := Scf.iv c1_i32_71 c1_i32_73 k0_t3
  let v419 : Index := Scalar.indexCast arg16
  let c0_196 : Index := 0#32
  ![v419.toNat, 0]
def k0_off21 (k0_t3 : Fin k0_t3_loop.trips) : Fin 2 → Nat :=
  let c1_i32_71 : BitVec 32 := 1#32
  let c1_i32_73 : BitVec 32 := 1#32
  let arg16 : BitVec 32 := Scf.iv c1_i32_71 c1_i32_73 k0_t3
  let v423 : Index := Scalar.indexCast arg16
  let c16_197 : Index := 16#32
  ![v423.toNat, 16]
def k0_off22 (k0_t3 : Fin k0_t3_loop.trips) : Fin 2 → Nat :=
  let c1_i32_71 : BitVec 32 := 1#32
  let c1_i32_73 : BitVec 32 := 1#32
  let arg16 : BitVec 32 := Scf.iv c1_i32_71 c1_i32_73 k0_t3
  let v427 : Index := Scalar.indexCast arg16
  let c32_198 : Index := 32#32
  ![v427.toNat, 32]
def k0_off23 (k0_t3 : Fin k0_t3_loop.trips) : Fin 2 → Nat :=
  let c1_i32_71 : BitVec 32 := 1#32
  let c1_i32_73 : BitVec 32 := 1#32
  let arg16 : BitVec 32 := Scf.iv c1_i32_71 c1_i32_73 k0_t3
  let v431 : Index := Scalar.indexCast arg16
  let c48_199 : Index := 48#32
  ![v431.toNat, 48]
def k0_off24 (k0_t3 : Fin k0_t3_loop.trips) : Fin 2 → Nat :=
  let c1_i32_71 : BitVec 32 := 1#32
  let c1_i32_73 : BitVec 32 := 1#32
  let arg16 : BitVec 32 := Scf.iv c1_i32_71 c1_i32_73 k0_t3
  let v435 : Index := Scalar.indexCast arg16
  let c64_200 : Index := 64#32
  ![v435.toNat, 64]
def k0_off25 (k0_t3 : Fin k0_t3_loop.trips) : Fin 2 → Nat :=
  let c1_i32_71 : BitVec 32 := 1#32
  let c1_i32_73 : BitVec 32 := 1#32
  let arg16 : BitVec 32 := Scf.iv c1_i32_71 c1_i32_73 k0_t3
  let v439 : Index := Scalar.indexCast arg16
  let c80_201 : Index := 80#32
  ![v439.toNat, 80]
def k0_off26 (k0_t3 : Fin k0_t3_loop.trips) : Fin 2 → Nat :=
  let c1_i32_71 : BitVec 32 := 1#32
  let c1_i32_73 : BitVec 32 := 1#32
  let arg16 : BitVec 32 := Scf.iv c1_i32_71 c1_i32_73 k0_t3
  let v443 : Index := Scalar.indexCast arg16
  let c96_202 : Index := 96#32
  ![v443.toNat, 96]
def k0_off27 (k0_t3 : Fin k0_t3_loop.trips) : Fin 2 → Nat :=
  let c1_i32_71 : BitVec 32 := 1#32
  let c1_i32_73 : BitVec 32 := 1#32
  let arg16 : BitVec 32 := Scf.iv c1_i32_71 c1_i32_73 k0_t3
  let v447 : Index := Scalar.indexCast arg16
  let c112_203 : Index := 112#32
  ![v447.toNat, 112]
def k0_cond2 (k0_t1 : Fin k0_t1_loop.trips) : BitVec 1 :=
  let c0_i32_17 : BitVec 32 := 0#32
  let c0_i32_14 : BitVec 32 := 0#32
  let c1_i32_15 : BitVec 32 := 1#32
  let arg15 : BitVec 32 := Scf.iv c0_i32_14 c1_i32_15 k0_t1
  let c4_i32 : BitVec 32 := 4#32
  let v17 : BitVec 32 := Scalar.muli arg15 c4_i32
  let v18 : BitVec 32 := Scalar.addi c0_i32_17 v17
  let c1_i32_98 : BitVec 32 := 1#32
  let v214 : BitVec 32 := Scalar.addi v18 c1_i32_98
  let c4_i32_99 : BitVec 32 := 4#32
  let v215 : BitVec 32 := Scalar.addi v214 c4_i32_99
  let c64_i32_100 : BitVec 32 := 64#32
  let v216 : BitVec 1 := Scalar.cmpi .slt v215 c64_i32_100
  let v217 : BitVec 32 := Scalar.extui v216
  let c0_i32_101 : BitVec 32 := 0#32
  let v218 : BitVec 1 := Scalar.cmpi .ne v217 c0_i32_101
  v218

def k0_off28 (k0_t1 : Fin k0_t1_loop.trips) : Fin 2 → Nat :=
  let c0_i32_17 : BitVec 32 := 0#32
  let c0_i32_14 : BitVec 32 := 0#32
  let c1_i32_15 : BitVec 32 := 1#32
  let arg15 : BitVec 32 := Scf.iv c0_i32_14 c1_i32_15 k0_t1
  let c4_i32 : BitVec 32 := 4#32
  let v17 : BitVec 32 := Scalar.muli arg15 c4_i32
  let v18 : BitVec 32 := Scalar.addi c0_i32_17 v17
  let c1_i32_196 : BitVec 32 := 1#32
  let v419 : BitVec 32 := Scalar.addi v18 c1_i32_196
  let c4_i32_197 : BitVec 32 := 4#32
  let v420 : BitVec 32 := Scalar.addi v419 c4_i32_197
  let c0_i32_198 : BitVec 32 := 0#32
  ![v420.toNat, 0]
@[reducible] def k0_t4_loop : Scf.Loop 32 :=
  let c1_i32_122 : BitVec 32 := 1#32
  let c99_i32_123 : BitVec 32 := 99#32
  let v247 : BitVec 32 := Scalar.addi c1_i32_122 c99_i32_123
  let c1_i32_124 : BitVec 32 := 1#32
  ⟨c1_i32_122, v247, c1_i32_124⟩
def k0_off29 (k0_t4 : Fin k0_t4_loop.trips) : Fin 2 → Nat :=
  let c1_i32_122 : BitVec 32 := 1#32
  let c1_i32_124 : BitVec 32 := 1#32
  let arg16 : BitVec 32 := Scf.iv c1_i32_122 c1_i32_124 k0_t4
  let v419 : Index := Scalar.indexCast arg16
  let c0_196 : Index := 0#32
  ![v419.toNat, 0]
def k0_off30 (k0_t4 : Fin k0_t4_loop.trips) : Fin 2 → Nat :=
  let c1_i32_122 : BitVec 32 := 1#32
  let c1_i32_124 : BitVec 32 := 1#32
  let arg16 : BitVec 32 := Scf.iv c1_i32_122 c1_i32_124 k0_t4
  let v423 : Index := Scalar.indexCast arg16
  let c16_197 : Index := 16#32
  ![v423.toNat, 16]
def k0_off31 (k0_t4 : Fin k0_t4_loop.trips) : Fin 2 → Nat :=
  let c1_i32_122 : BitVec 32 := 1#32
  let c1_i32_124 : BitVec 32 := 1#32
  let arg16 : BitVec 32 := Scf.iv c1_i32_122 c1_i32_124 k0_t4
  let v427 : Index := Scalar.indexCast arg16
  let c32_198 : Index := 32#32
  ![v427.toNat, 32]
def k0_off32 (k0_t4 : Fin k0_t4_loop.trips) : Fin 2 → Nat :=
  let c1_i32_122 : BitVec 32 := 1#32
  let c1_i32_124 : BitVec 32 := 1#32
  let arg16 : BitVec 32 := Scf.iv c1_i32_122 c1_i32_124 k0_t4
  let v431 : Index := Scalar.indexCast arg16
  let c48_199 : Index := 48#32
  ![v431.toNat, 48]
def k0_off33 (k0_t4 : Fin k0_t4_loop.trips) : Fin 2 → Nat :=
  let c1_i32_122 : BitVec 32 := 1#32
  let c1_i32_124 : BitVec 32 := 1#32
  let arg16 : BitVec 32 := Scf.iv c1_i32_122 c1_i32_124 k0_t4
  let v435 : Index := Scalar.indexCast arg16
  let c64_200 : Index := 64#32
  ![v435.toNat, 64]
def k0_off34 (k0_t4 : Fin k0_t4_loop.trips) : Fin 2 → Nat :=
  let c1_i32_122 : BitVec 32 := 1#32
  let c1_i32_124 : BitVec 32 := 1#32
  let arg16 : BitVec 32 := Scf.iv c1_i32_122 c1_i32_124 k0_t4
  let v439 : Index := Scalar.indexCast arg16
  let c80_201 : Index := 80#32
  ![v439.toNat, 80]
def k0_off35 (k0_t4 : Fin k0_t4_loop.trips) : Fin 2 → Nat :=
  let c1_i32_122 : BitVec 32 := 1#32
  let c1_i32_124 : BitVec 32 := 1#32
  let arg16 : BitVec 32 := Scf.iv c1_i32_122 c1_i32_124 k0_t4
  let v443 : Index := Scalar.indexCast arg16
  let c96_202 : Index := 96#32
  ![v443.toNat, 96]
def k0_off36 (k0_t4 : Fin k0_t4_loop.trips) : Fin 2 → Nat :=
  let c1_i32_122 : BitVec 32 := 1#32
  let c1_i32_124 : BitVec 32 := 1#32
  let arg16 : BitVec 32 := Scf.iv c1_i32_122 c1_i32_124 k0_t4
  let v447 : Index := Scalar.indexCast arg16
  let c112_203 : Index := 112#32
  ![v447.toNat, 112]
def k0_cond3 (k0_t1 : Fin k0_t1_loop.trips) : BitVec 1 :=
  let c0_i32_17 : BitVec 32 := 0#32
  let c0_i32_14 : BitVec 32 := 0#32
  let c1_i32_15 : BitVec 32 := 1#32
  let arg15 : BitVec 32 := Scf.iv c0_i32_14 c1_i32_15 k0_t1
  let c4_i32 : BitVec 32 := 4#32
  let v17 : BitVec 32 := Scalar.muli arg15 c4_i32
  let v18 : BitVec 32 := Scalar.addi c0_i32_17 v17
  let c2_i32_141 : BitVec 32 := 2#32
  let v298 : BitVec 32 := Scalar.addi v18 c2_i32_141
  let c4_i32_142 : BitVec 32 := 4#32
  let v299 : BitVec 32 := Scalar.addi v298 c4_i32_142
  let c64_i32_143 : BitVec 32 := 64#32
  let v300 : BitVec 1 := Scalar.cmpi .slt v299 c64_i32_143
  let v301 : BitVec 32 := Scalar.extui v300
  let c0_i32_144 : BitVec 32 := 0#32
  let v302 : BitVec 1 := Scalar.cmpi .ne v301 c0_i32_144
  v302

def k0_off37 (k0_t1 : Fin k0_t1_loop.trips) : Fin 2 → Nat :=
  let c0_i32_17 : BitVec 32 := 0#32
  let c0_i32_14 : BitVec 32 := 0#32
  let c1_i32_15 : BitVec 32 := 1#32
  let arg15 : BitVec 32 := Scf.iv c0_i32_14 c1_i32_15 k0_t1
  let c4_i32 : BitVec 32 := 4#32
  let v17 : BitVec 32 := Scalar.muli arg15 c4_i32
  let v18 : BitVec 32 := Scalar.addi c0_i32_17 v17
  let c2_i32_196 : BitVec 32 := 2#32
  let v419 : BitVec 32 := Scalar.addi v18 c2_i32_196
  let c4_i32_197 : BitVec 32 := 4#32
  let v420 : BitVec 32 := Scalar.addi v419 c4_i32_197
  let c0_i32_198 : BitVec 32 := 0#32
  ![v420.toNat, 0]
@[reducible] def k0_t5_loop : Scf.Loop 32 :=
  let c1_i32_165 : BitVec 32 := 1#32
  let c99_i32_166 : BitVec 32 := 99#32
  let v331 : BitVec 32 := Scalar.addi c1_i32_165 c99_i32_166
  let c1_i32_167 : BitVec 32 := 1#32
  ⟨c1_i32_165, v331, c1_i32_167⟩
def k0_off38 (k0_t5 : Fin k0_t5_loop.trips) : Fin 2 → Nat :=
  let c1_i32_165 : BitVec 32 := 1#32
  let c1_i32_167 : BitVec 32 := 1#32
  let arg16 : BitVec 32 := Scf.iv c1_i32_165 c1_i32_167 k0_t5
  let v419 : Index := Scalar.indexCast arg16
  let c0_196 : Index := 0#32
  ![v419.toNat, 0]
def k0_off39 (k0_t5 : Fin k0_t5_loop.trips) : Fin 2 → Nat :=
  let c1_i32_165 : BitVec 32 := 1#32
  let c1_i32_167 : BitVec 32 := 1#32
  let arg16 : BitVec 32 := Scf.iv c1_i32_165 c1_i32_167 k0_t5
  let v423 : Index := Scalar.indexCast arg16
  let c16_197 : Index := 16#32
  ![v423.toNat, 16]
def k0_off40 (k0_t5 : Fin k0_t5_loop.trips) : Fin 2 → Nat :=
  let c1_i32_165 : BitVec 32 := 1#32
  let c1_i32_167 : BitVec 32 := 1#32
  let arg16 : BitVec 32 := Scf.iv c1_i32_165 c1_i32_167 k0_t5
  let v427 : Index := Scalar.indexCast arg16
  let c32_198 : Index := 32#32
  ![v427.toNat, 32]
def k0_off41 (k0_t5 : Fin k0_t5_loop.trips) : Fin 2 → Nat :=
  let c1_i32_165 : BitVec 32 := 1#32
  let c1_i32_167 : BitVec 32 := 1#32
  let arg16 : BitVec 32 := Scf.iv c1_i32_165 c1_i32_167 k0_t5
  let v431 : Index := Scalar.indexCast arg16
  let c48_199 : Index := 48#32
  ![v431.toNat, 48]
def k0_off42 (k0_t5 : Fin k0_t5_loop.trips) : Fin 2 → Nat :=
  let c1_i32_165 : BitVec 32 := 1#32
  let c1_i32_167 : BitVec 32 := 1#32
  let arg16 : BitVec 32 := Scf.iv c1_i32_165 c1_i32_167 k0_t5
  let v435 : Index := Scalar.indexCast arg16
  let c64_200 : Index := 64#32
  ![v435.toNat, 64]
def k0_off43 (k0_t5 : Fin k0_t5_loop.trips) : Fin 2 → Nat :=
  let c1_i32_165 : BitVec 32 := 1#32
  let c1_i32_167 : BitVec 32 := 1#32
  let arg16 : BitVec 32 := Scf.iv c1_i32_165 c1_i32_167 k0_t5
  let v439 : Index := Scalar.indexCast arg16
  let c80_201 : Index := 80#32
  ![v439.toNat, 80]
def k0_off44 (k0_t5 : Fin k0_t5_loop.trips) : Fin 2 → Nat :=
  let c1_i32_165 : BitVec 32 := 1#32
  let c1_i32_167 : BitVec 32 := 1#32
  let arg16 : BitVec 32 := Scf.iv c1_i32_165 c1_i32_167 k0_t5
  let v443 : Index := Scalar.indexCast arg16
  let c96_202 : Index := 96#32
  ![v443.toNat, 96]
def k0_off45 (k0_t5 : Fin k0_t5_loop.trips) : Fin 2 → Nat :=
  let c1_i32_165 : BitVec 32 := 1#32
  let c1_i32_167 : BitVec 32 := 1#32
  let arg16 : BitVec 32 := Scf.iv c1_i32_165 c1_i32_167 k0_t5
  let v447 : Index := Scalar.indexCast arg16
  let c112_203 : Index := 112#32
  ![v447.toNat, 112]
def k0_cond4 (k0_t1 : Fin k0_t1_loop.trips) : BitVec 1 :=
  let c0_i32_17 : BitVec 32 := 0#32
  let c0_i32_14 : BitVec 32 := 0#32
  let c1_i32_15 : BitVec 32 := 1#32
  let arg15 : BitVec 32 := Scf.iv c0_i32_14 c1_i32_15 k0_t1
  let c4_i32 : BitVec 32 := 4#32
  let v17 : BitVec 32 := Scalar.muli arg15 c4_i32
  let v18 : BitVec 32 := Scalar.addi c0_i32_17 v17
  let c3_i32_192 : BitVec 32 := 3#32
  let v414 : BitVec 32 := Scalar.addi v18 c3_i32_192
  let c4_i32_193 : BitVec 32 := 4#32
  let v415 : BitVec 32 := Scalar.addi v414 c4_i32_193
  let c64_i32_194 : BitVec 32 := 64#32
  let v416 : BitVec 1 := Scalar.cmpi .slt v415 c64_i32_194
  let v417 : BitVec 32 := Scalar.extui v416
  let c0_i32_195 : BitVec 32 := 0#32
  let v418 : BitVec 1 := Scalar.cmpi .ne v417 c0_i32_195
  v418

def k0_off46 (k0_t1 : Fin k0_t1_loop.trips) : Fin 2 → Nat :=
  let c0_i32_17 : BitVec 32 := 0#32
  let c0_i32_14 : BitVec 32 := 0#32
  let c1_i32_15 : BitVec 32 := 1#32
  let arg15 : BitVec 32 := Scf.iv c0_i32_14 c1_i32_15 k0_t1
  let c4_i32 : BitVec 32 := 4#32
  let v17 : BitVec 32 := Scalar.muli arg15 c4_i32
  let v18 : BitVec 32 := Scalar.addi c0_i32_17 v17
  let c3_i32_196 : BitVec 32 := 3#32
  let v419 : BitVec 32 := Scalar.addi v18 c3_i32_196
  let c4_i32_197 : BitVec 32 := 4#32
  let v420 : BitVec 32 := Scalar.addi v419 c4_i32_197
  let c0_i32_198 : BitVec 32 := 0#32
  ![v420.toNat, 0]
def k0_off47 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_17_r1 : BitVec 32 := 0#32
  ![v2.toNat, 0]
abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1000x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x1000 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x1000 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x1000 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x1000 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x1000 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 2 → Memref sig .tc .vmem S512x1000 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x200 : Shape := ⟨2, ![1024, 200]⟩
abbrev S1000000x128 : Shape := ⟨2, ![1000000, 128]⟩
abbrev S512x128 : Shape := ⟨2, ![512, 128]⟩
abbrev S512 : Shape := ⟨1, ![512]⟩
abbrev S512x512 : Shape := ⟨2, ![512, 512]⟩
abbrev S1000x512 : Shape := ⟨2, ![1000, 512]⟩
abbrev S1000 : Shape := ⟨1, ![1000]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S1024x128 : Shape := ⟨2, ![1024, 128]⟩
abbrev S128x512 : Shape := ⟨2, ![128, 512]⟩
abbrev S1024x512 : Shape := ⟨2, ![1024, 512]⟩
abbrev S1x512 : Shape := ⟨2, ![1, 512]⟩
abbrev S512x1000 : Shape := ⟨2, ![512, 1000]⟩
abbrev S1024x1000 : Shape := ⟨2, ![1024, 1000]⟩
abbrev S1x1000 : Shape := ⟨2, ![1, 1000]⟩

abbrev nBuf : Space → Nat
  | .hbm => 138
  | .vmem => 0
  | .smem => 0
  | _ => 0

abbrev hbmTy0_0 (i : Nat) : BufTy := match i % 128 with
  | 0 => ⟨S1024x200, .i32⟩
  | 1 => ⟨S1000000x128, .f32⟩
  | 2 => ⟨S512x128, .f32⟩
  | 3 => ⟨S512, .f32⟩
  | 4 => ⟨S512, .f32⟩
  | 5 => ⟨S512, .f32⟩
  | 6 => ⟨S512, .f32⟩
  | 7 => ⟨S512, .f32⟩
  | 8 => ⟨S512x512, .f32⟩
  | 9 => ⟨S512, .f32⟩
  | 10 => ⟨S512, .f32⟩
  | 11 => ⟨S512, .f32⟩
  | 12 => ⟨S512, .f32⟩
  | 13 => ⟨S512, .f32⟩
  | 14 => ⟨S1000x512, .f32⟩
  | 15 => ⟨S1000, .f32⟩
  | 16 => ⟨S1000, .f32⟩
  | 17 => ⟨S1000, .f32⟩
  | 18 => ⟨S1000, .f32⟩
  | 19 => ⟨S1000, .f32⟩
  | 20 => ⟨S_, .i32⟩
  | 21 => ⟨S1024x200, .i32⟩
  | 22 => ⟨S1024x200, .i1⟩
  | 23 => ⟨S_, .i32⟩
  | 24 => ⟨S1024x200, .i32⟩
  | 25 => ⟨S1024x200, .i32⟩
  | 26 => ⟨S1024x200, .i32⟩
  | 27 => ⟨S1024x200x1, .i32⟩
  | 28 => ⟨S1, .i32⟩
  | 29 => ⟨S_, .i32⟩
  | 30 => ⟨S1024x200x1, .i32⟩
  | 31 => ⟨S1024x200x1, .i1⟩
  | 32 => ⟨S1x1x1, .i32⟩
  | 33 => ⟨S1024x200x1, .i32⟩
  | 34 => ⟨S1024x200x1, .i1⟩
  | 35 => ⟨S1024x200x1, .i1⟩
  | 36 => ⟨S_, .i1⟩
  | 37 => ⟨S1024x200, .i1⟩
  | 38 => ⟨S1024x200x128, .f32⟩
  | 39 => ⟨S1024x200x128, .i1⟩
  | 40 => ⟨S_, .f32⟩
  | 41 => ⟨S1024x200x128, .f32⟩
  | 42 => ⟨S1024x200x128, .f32⟩
  | 43 => ⟨S_, .f32⟩
  | 44 => ⟨S1024x128, .f32⟩
  | 45 => ⟨S128x512, .f32⟩
  | 46 => ⟨S1024x512, .f32⟩
  | 47 => ⟨S1x512, .f32⟩
  | 48 => ⟨S1024x512, .f32⟩
  | 49 => ⟨S1024x512, .f32⟩
  | 50 => ⟨S1x512, .f32⟩
  | 51 => ⟨S1024x512, .f32⟩
  | 52 => ⟨S1024x512, .f32⟩
  | 53 => ⟨S_, .f32⟩
  | 54 => ⟨S512, .f32⟩
  | 55 => ⟨S512, .f32⟩
  | 56 => ⟨S512, .f32⟩
  | 57 => ⟨S1x512, .f32⟩
  | 58 => ⟨S1024x512, .f32⟩
  | 59 => ⟨S1024x512, .f32⟩
  | 60 => ⟨S1x512, .f32⟩
  | 61 => ⟨S1024x512, .f32⟩
  | 62 => ⟨S1024x512, .f32⟩
  | 63 => ⟨S1x512, .f32⟩
  | 64 => ⟨S1024x512, .f32⟩
  | 65 => ⟨S1024x512, .f32⟩
  | 66 => ⟨S_, .f32⟩
  | 67 => ⟨S1024x512, .f32⟩
  | 68 => ⟨S1024x512, .i1⟩
  | 69 => ⟨S_, .f32⟩
  | 70 => ⟨S1024x512, .f32⟩
  | 71 => ⟨S1024x512, .i1⟩
  | 72 => ⟨S_, .f32⟩
  | 73 => ⟨S_, .f32⟩
  | 74 => ⟨S1024x512, .f32⟩
  | 75 => ⟨S1024x512, .f32⟩
  | 76 => ⟨S1024x512, .f32⟩
  | 77 => ⟨S_, .f32⟩
  | 78 => ⟨S1024x512, .f32⟩
  | 79 => ⟨S1024x512, .f32⟩
  | 80 => ⟨S1024x512, .f32⟩
  | 81 => ⟨S512x512, .f32⟩
  | 82 => ⟨S1024x512, .f32⟩
  | 83 => ⟨S1x512, .f32⟩
  | 84 => ⟨S1024x512, .f32⟩
  | 85 => ⟨S1024x512, .f32⟩
  | 86 => ⟨S1x512, .f32⟩
  | 87 => ⟨S1024x512, .f32⟩
  | 88 => ⟨S1024x512, .f32⟩
  | 89 => ⟨S_, .f32⟩
  | 90 => ⟨S512, .f32⟩
  | 91 => ⟨S512, .f32⟩
  | 92 => ⟨S512, .f32⟩
  | 93 => ⟨S1x512, .f32⟩
  | 94 => ⟨S1024x512, .f32⟩
  | 95 => ⟨S1024x512, .f32⟩
  | 96 => ⟨S1x512, .f32⟩
  | 97 => ⟨S1024x512, .f32⟩
  | 98 => ⟨S1024x512, .f32⟩
  | 99 => ⟨S1x512, .f32⟩
  | 100 => ⟨S1024x512, .f32⟩
  | 101 => ⟨S1024x512, .f32⟩
  | 102 => ⟨S_, .f32⟩
  | 103 => ⟨S1024x512, .f32⟩
  | 104 => ⟨S1024x512, .i1⟩
  | 105 => ⟨S_, .f32⟩
  | 106 => ⟨S1024x512, .f32⟩
  | 107 => ⟨S1024x512, .i1⟩
  | 108 => ⟨S_, .f32⟩
  | 109 => ⟨S_, .f32⟩
  | 110 => ⟨S1024x512, .f32⟩
  | 111 => ⟨S1024x512, .f32⟩
  | 112 => ⟨S1024x512, .f32⟩
  | 113 => ⟨S_, .f32⟩
  | 114 => ⟨S1024x512, .f32⟩
  | 115 => ⟨S1024x512, .f32⟩
  | 116 => ⟨S1024x512, .f32⟩
  | 117 => ⟨S512x1000, .f32⟩
  | 118 => ⟨S1024x1000, .f32⟩
  | 119 => ⟨S1x1000, .f32⟩
  | 120 => ⟨S1024x1000, .f32⟩
  | 121 => ⟨S1024x1000, .f32⟩
  | 122 => ⟨S1x1000, .f32⟩
  | 123 => ⟨S1024x1000, .f32⟩
  | 124 => ⟨S1024x1000, .f32⟩
  | 125 => ⟨S_, .f32⟩
  | 126 => ⟨S1000, .f32⟩
  | 127 => ⟨S1000, .f32⟩
  | _ => ⟨S1024x200, .i32⟩

abbrev hbmTy0_1 (i : Nat) : BufTy := match i % 128 with
  | 0 => ⟨S1000, .f32⟩
  | 1 => ⟨S1x1000, .f32⟩
  | 2 => ⟨S1024x1000, .f32⟩
  | 3 => ⟨S1024x1000, .f32⟩
  | 4 => ⟨S1x1000, .f32⟩
  | 5 => ⟨S1024x1000, .f32⟩
  | 6 => ⟨S1024x1000, .f32⟩
  | 7 => ⟨S1x1000, .f32⟩
  | 8 => ⟨S1024x1000, .f32⟩
  | 9 => ⟨S1024x1000, .f32⟩
  | _ => ⟨S1024x200, .i32⟩

abbrev hbmTy (i : Nat) : BufTy := match i / 128 with
  | 0 => hbmTy0_0 i
  | 1 => hbmTy0_1 i
  | _ => ⟨S1024x200, .i32⟩

abbrev bufTy : (tb : Table) → Fin (tcTables nBuf tb) → BufTy
  | .hbm, ⟨i, _⟩ => hbmTy i
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v0 : Ref sig .tc := ⟨.hbm, 42, rfl⟩
abbrev main_cst : Ref sig .tc := ⟨.hbm, 43, rfl⟩
abbrev main_v1 : Ref sig .tc := ⟨.hbm, 44, rfl⟩
abbrev main_v2 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_cst_0 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_cst_0 : Ref sig .tc := ⟨.hbm, 69, rfl⟩
abbrev main_call1_v2 : Ref sig .tc := ⟨.hbm, 70, rfl⟩
abbrev main_call1_v3 : Ref sig .tc := ⟨.hbm, 71, rfl⟩
abbrev main_call1_cst_1 : Ref sig .tc := ⟨.hbm, 72, rfl⟩
abbrev main_call1_call0_v0 : Ref sig .tc := ⟨.hbm, 73, rfl⟩
abbrev main_call1_call0_v1 : Ref sig .tc := ⟨.hbm, 74, rfl⟩
abbrev main_call1_v4 : Ref sig .tc := ⟨.hbm, 75, rfl⟩
abbrev main_call1_v5 : Ref sig .tc := ⟨.hbm, 76, rfl⟩
abbrev main_call1_cst_2 : Ref sig .tc := ⟨.hbm, 77, rfl⟩
abbrev main_call1_v6 : Ref sig .tc := ⟨.hbm, 78, rfl⟩
abbrev main_call1_v7 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_cst_1 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_call2_cst : Ref sig .tc := ⟨.hbm, 102, rfl⟩
abbrev main_call2_v0 : Ref sig .tc := ⟨.hbm, 103, rfl⟩
abbrev main_call2_v1 : Ref sig .tc := ⟨.hbm, 104, rfl⟩
abbrev main_call2_cst_0 : Ref sig .tc := ⟨.hbm, 105, rfl⟩
abbrev main_call2_v2 : Ref sig .tc := ⟨.hbm, 106, rfl⟩
abbrev main_call2_v3 : Ref sig .tc := ⟨.hbm, 107, rfl⟩
abbrev main_call2_cst_1 : Ref sig .tc := ⟨.hbm, 108, rfl⟩
abbrev main_call2_call0_v0 : Ref sig .tc := ⟨.hbm, 109, rfl⟩
abbrev main_call2_call0_v1 : Ref sig .tc := ⟨.hbm, 110, rfl⟩
abbrev main_call2_v4 : Ref sig .tc := ⟨.hbm, 111, rfl⟩
abbrev main_call2_v5 : Ref sig .tc := ⟨.hbm, 112, rfl⟩
abbrev main_call2_cst_2 : Ref sig .tc := ⟨.hbm, 113, rfl⟩
abbrev main_call2_v6 : Ref sig .tc := ⟨.hbm, 114, rfl⟩
abbrev main_call2_v7 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_cst_2 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩

abbrev nD : Nat := 1
abbrev τ : Topo := Topo.v7x

variable {F : FTy → Type} [FloatOps F]
-- ==== Proof.Offsets.lean ====
/-
  The word-row offsets the tile's code computes, in closed form. The accumulator row of a phase comes from the trip by a
  signed division that rounds towards minus infinity: trip `t`, phase `b` writes row `2t + b/2`.
-/
module

public import proofs.«01_k».proof.Proof.Gen.KernelIdeal

@[expose] public section

set_option maxRecDepth 16384

namespace Cert.Proof.Offsets

open Cert.KernelIdeal Cert.KernelIdeal.Gen
open Idealize.ShloMosaic Idealize.ShloMosaic.Tactic

/-- The outer loop runs 16 trips, an inner loop 99. -/
theorem trips1 : k0_t1_loop.trips = 16 := by decide +kernel
theorem trips2 : k0_t2_loop.trips = 99 := by decide +kernel

theorem off11_eq : ∀ t : Fin k0_t1_loop.trips, ∀ r : Fin 4, k0_off11 t (BitVec.ofNat 32 r.val) = ![2 * t.val + r.val / 2, 0] := by decide +kernel
instance closedOff11_0 (t : Fin k0_t1_loop.trips) : ClosedOff (k0_off11 t (BitVec.ofNat 32 0)) := ⟨![2 * t.val + 0, 0], (off11_eq t (0 : Fin 4) :)⟩
instance closedOff11_1 (t : Fin k0_t1_loop.trips) : ClosedOff (k0_off11 t (BitVec.ofNat 32 1)) := ⟨![2 * t.val + 0, 0], (off11_eq t (1 : Fin 4) :)⟩
instance closedOff11_2 (t : Fin k0_t1_loop.trips) : ClosedOff (k0_off11 t (BitVec.ofNat 32 2)) := ⟨![2 * t.val + 1, 0], (off11_eq t (2 : Fin 4) :)⟩
instance closedOff11_3 (t : Fin k0_t1_loop.trips) : ClosedOff (k0_off11 t (BitVec.ofNat 32 3)) := ⟨![2 * t.val + 1, 0], (off11_eq t (3 : Fin 4) :)⟩
theorem off12_eq : ∀ t : Fin k0_t1_loop.trips, ∀ r : Fin 4, k0_off12 t (BitVec.ofNat 32 r.val) = ![2 * t.val + r.val / 2, 16] := by decide +kernel
instance closedOff12_0 (t : Fin k0_t1_loop.trips) : ClosedOff (k0_off12 t (BitVec.ofNat 32 0)) := ⟨![2 * t.val + 0, 16], (off12_eq t (0 : Fin 4) :)⟩
instance closedOff12_1 (t : Fin k0_t1_loop.trips) : ClosedOff (k0_off12 t (BitVec.ofNat 32 1)) := ⟨![2 * t.val + 0, 16], (off12_eq t (1 : Fin 4) :)⟩
instance closedOff12_2 (t : Fin k0_t1_loop.trips) : ClosedOff (k0_off12 t (BitVec.ofNat 32 2)) := ⟨![2 * t.val + 1, 16], (off12_eq t (2 : Fin 4) :)⟩
instance closedOff12_3 (t : Fin k0_t1_loop.trips) : ClosedOff (k0_off12 t (BitVec.ofNat 32 3)) := ⟨![2 * t.val + 1, 16], (off12_eq t (3 : Fin 4) :)⟩
theorem off13_eq : ∀ t : Fin k0_t1_loop.trips, ∀ r : Fin 4, k0_off13 t (BitVec.ofNat 32 r.val) = ![2 * t.val + r.val / 2, 32] := by decide +kernel
instance closedOff13_0 (t : Fin k0_t1_loop.trips) : ClosedOff (k0_off13 t (BitVec.ofNat 32 0)) := ⟨![2 * t.val + 0, 32], (off13_eq t (0 : Fin 4) :)⟩
instance closedOff13_1 (t : Fin k0_t1_loop.trips) : ClosedOff (k0_off13 t (BitVec.ofNat 32 1)) := ⟨![2 * t.val + 0, 32], (off13_eq t (1 : Fin 4) :)⟩
instance closedOff13_2 (t : Fin k0_t1_loop.trips) : ClosedOff (k0_off13 t (BitVec.ofNat 32 2)) := ⟨![2 * t.val + 1, 32], (off13_eq t (2 : Fin 4) :)⟩
instance closedOff13_3 (t : Fin k0_t1_loop.trips) : ClosedOff (k0_off13 t (BitVec.ofNat 32 3)) := ⟨![2 * t.val + 1, 32], (off13_eq t (3 : Fin 4) :)⟩
theorem off14_eq : ∀ t : Fin k0_t1_loop.trips, ∀ r : Fin 4, k0_off14 t (BitVec.ofNat 32 r.val) = ![2 * t.val + r.val / 2, 48] := by decide +kernel
instance closedOff14_0 (t : Fin k0_t1_loop.trips) : ClosedOff (k0_off14 t (BitVec.ofNat 32 0)) := ⟨![2 * t.val + 0, 48], (off14_eq t (0 : Fin 4) :)⟩
instance closedOff14_1 (t : Fin k0_t1_loop.trips) : ClosedOff (k0_off14 t (BitVec.ofNat 32 1)) := ⟨![2 * t.val + 0, 48], (off14_eq t (1 : Fin 4) :)⟩
instance closedOff14_2 (t : Fin k0_t1_loop.trips) : ClosedOff (k0_off14 t (BitVec.ofNat 32 2)) := ⟨![2 * t.val + 1, 48], (off14_eq t (2 : Fin 4) :)⟩
instance closedOff14_3 (t : Fin k0_t1_loop.trips) : ClosedOff (k0_off14 t (BitVec.ofNat 32 3)) := ⟨![2 * t.val + 1, 48], (off14_eq t (3 : Fin 4) :)⟩
theorem off15_eq : ∀ t : Fin k0_t1_loop.trips, ∀ r : Fin 4, k0_off15 t (BitVec.ofNat 32 r.val) = ![2 * t.val + r.val / 2, 64] := by decide +kernel
instance closedOff15_0 (t : Fin k0_t1_loop.trips) : ClosedOff (k0_off15 t (BitVec.ofNat 32 0)) := ⟨![2 * t.val + 0, 64], (off15_eq t (0 : Fin 4) :)⟩
instance closedOff15_1 (t : Fin k0_t1_loop.trips) : ClosedOff (k0_off15 t (BitVec.ofNat 32 1)) := ⟨![2 * t.val + 0, 64], (off15_eq t (1 : Fin 4) :)⟩
instance closedOff15_2 (t : Fin k0_t1_loop.trips) : ClosedOff (k0_off15 t (BitVec.ofNat 32 2)) := ⟨![2 * t.val + 1, 64], (off15_eq t (2 : Fin 4) :)⟩
instance closedOff15_3 (t : Fin k0_t1_loop.trips) : ClosedOff (k0_off15 t (BitVec.ofNat 32 3)) := ⟨![2 * t.val + 1, 64], (off15_eq t (3 : Fin 4) :)⟩
theorem off16_eq : ∀ t : Fin k0_t1_loop.trips, ∀ r : Fin 4, k0_off16 t (BitVec.ofNat 32 r.val) = ![2 * t.val + r.val / 2, 80] := by decide +kernel
instance closedOff16_0 (t : Fin k0_t1_loop.trips) : ClosedOff (k0_off16 t (BitVec.ofNat 32 0)) := ⟨![2 * t.val + 0, 80], (off16_eq t (0 : Fin 4) :)⟩
instance closedOff16_1 (t : Fin k0_t1_loop.trips) : ClosedOff (k0_off16 t (BitVec.ofNat 32 1)) := ⟨![2 * t.val + 0, 80], (off16_eq t (1 : Fin 4) :)⟩
instance closedOff16_2 (t : Fin k0_t1_loop.trips) : ClosedOff (k0_off16 t (BitVec.ofNat 32 2)) := ⟨![2 * t.val + 1, 80], (off16_eq t (2 : Fin 4) :)⟩
instance closedOff16_3 (t : Fin k0_t1_loop.trips) : ClosedOff (k0_off16 t (BitVec.ofNat 32 3)) := ⟨![2 * t.val + 1, 80], (off16_eq t (3 : Fin 4) :)⟩
theorem off17_eq : ∀ t : Fin k0_t1_loop.trips, ∀ r : Fin 4, k0_off17 t (BitVec.ofNat 32 r.val) = ![2 * t.val + r.val / 2, 96] := by decide +kernel
instance closedOff17_0 (t : Fin k0_t1_loop.trips) : ClosedOff (k0_off17 t (BitVec.ofNat 32 0)) := ⟨![2 * t.val + 0, 96], (off17_eq t (0 : Fin 4) :)⟩
instance closedOff17_1 (t : Fin k0_t1_loop.trips) : ClosedOff (k0_off17 t (BitVec.ofNat 32 1)) := ⟨![2 * t.val + 0, 96], (off17_eq t (1 : Fin 4) :)⟩
instance closedOff17_2 (t : Fin k0_t1_loop.trips) : ClosedOff (k0_off17 t (BitVec.ofNat 32 2)) := ⟨![2 * t.val + 1, 96], (off17_eq t (2 : Fin 4) :)⟩
instance closedOff17_3 (t : Fin k0_t1_loop.trips) : ClosedOff (k0_off17 t (BitVec.ofNat 32 3)) := ⟨![2 * t.val + 1, 96], (off17_eq t (3 : Fin 4) :)⟩
theorem off18_eq : ∀ t : Fin k0_t1_loop.trips, ∀ r : Fin 4, k0_off18 t (BitVec.ofNat 32 r.val) = ![2 * t.val + r.val / 2, 112] := by decide +kernel
instance closedOff18_0 (t : Fin k0_t1_loop.trips) : ClosedOff (k0_off18 t (BitVec.ofNat 32 0)) := ⟨![2 * t.val + 0, 112], (off18_eq t (0 : Fin 4) :)⟩
instance closedOff18_1 (t : Fin k0_t1_loop.trips) : ClosedOff (k0_off18 t (BitVec.ofNat 32 1)) := ⟨![2 * t.val + 0, 112], (off18_eq t (1 : Fin 4) :)⟩
instance closedOff18_2 (t : Fin k0_t1_loop.trips) : ClosedOff (k0_off18 t (BitVec.ofNat 32 2)) := ⟨![2 * t.val + 1, 112], (off18_eq t (2 : Fin 4) :)⟩
instance closedOff18_3 (t : Fin k0_t1_loop.trips) : ClosedOff (k0_off18 t (BitVec.ofNat 32 3)) := ⟨![2 * t.val + 1, 112], (off18_eq t (3 : Fin 4) :)⟩

/-- A phase issues the next trip's gather exactly when there is a next trip. -/
theorem cond1_iff : ∀ t : Fin k0_t1_loop.trips, (k0_cond1 t = 1#1 ↔ t.val < 15) := by decide +kernel
theorem cond2_iff : ∀ t : Fin k0_t1_loop.trips, (k0_cond2 t = 1#1 ↔ t.val < 15) := by decide +kernel
theorem cond3_iff : ∀ t : Fin k0_t1_loop.trips, (k0_cond3 t = 1#1 ↔ t.val < 15) := by decide +kernel
theorem cond4_iff : ∀ t : Fin k0_t1_loop.trips, (k0_cond4 t = 1#1 ↔ t.val < 15) := by decide +kernel

end Cert.Proof.Offsets
-- ==== Proof.Pool.lean ====
/-
  What the SparseCore call computes, over any float values: row `r` of the pooled array is, column by column, the maximum
  over the two hundred table rows its words name. A tile holds the words of its thirty-two rows as sixty-four lists of
  a hundred; `gath` is the table rows of one list, `colMax` the running maximum down a column in the order the tile takes
  it, `pooled` the two lists of a row joined.
-/
module

public import proofs.«01_k».proof.Proof.Gen.KernelIdeal
public import Idealize.ShloMosaic.Lib.Pointwise
public import Idealize.ShloMosaic.Lib.Pipeline.Value

@[expose] public section

set_option maxRecDepth 16384

noncomputable section

namespace Cert.Proof.Pool

open Cert.KernelIdeal Cert.KernelIdeal.Gen
open Idealize.ShloMosaic

variable {F : FTy → Type} [FloatOps F]

/-- The table rows the words `w` of a list name. -/
def gath (fe : S1000000x128.Idx → Elt F .f32) (w : Fin 100 → BitVec 32) : S100x128.Idx → Elt F .f32 := fun x =>
  fe (ix2 (Fin.ofNat 1000000 (w (x 0)).toNat) (x 1))

/-- The running maximum down column `j` of the first `n + 1` rows, taken from the top. -/
def colMax (G : S100x128.Idx → Elt F .f32) : ℕ → Fin 128 → Elt F .f32
  | 0, j => G (ix2 0 j)
  | n + 1, j => FloatOps.maximumf (colMax G n j) (G (ix2 (Fin.ofNat 100 (n + 1)) j))

/-- Sixteen columns of a row of 128 values, from column `16 c`. -/
def lanes (f : Fin 128 → Elt F .f32) (c : Fin 8) : FVec F S16 .f32 := fun l =>
  f ⟨16 * c.val + (l 0).val, by have h : (l 0).val < 16 := (l 0).isLt; have := c.isLt; omega⟩

/-- A row of 128 values as the eight vectors a tile carries. -/
def octet (f : Fin 128 → Elt F .f32) : FVec F S16 .f32 × FVec F S16 .f32 × FVec F S16 .f32 × FVec F S16 .f32 × FVec F S16 .f32 × FVec F S16 .f32 × FVec F S16 .f32 × FVec F S16 .f32 :=
  (lanes f 0, lanes f 1, lanes f 2, lanes f 3, lanes f 4, lanes f 5, lanes f 6, lanes f 7)

/-- A list's pooled row. -/
abbrev part (fe : S1000000x128.Idx → Elt F .f32) (w : Fin 100 → BitVec 32) : Fin 128 → Elt F .f32 := colMax (gath fe w) 99

/-- The pooled row of two lists: the first's maximum against the second's. -/
def pooled (fe : S1000000x128.Idx → Elt F .f32) (w w' : Fin 100 → BitVec 32) (j : Fin 128) : Elt F .f32 :=
  FloatOps.maximumf (part fe w j) (part fe w' j)

/-- A sixteen-lane load of one row, as the vector the tile works on. -/
theorem cast_row {α : Type} (x : S1x16.Idx → α) (l : S16.Idx) : shapeCast S16 x shapeCasts_S1x16_S16 l = x (ix2 0 (l 0)) := by
  refine shapeCast_apply x _ l _ ((Shape.rowMajor_val_two (d := ![1, 16]) _).trans (.trans ?_ (Shape.rowMajor_val_one (d := ![16]) _).symm))
  show 0 * 16 + (l 0).val = (l 0).val
  omega

theorem cast_vec {α : Type} (x : S16.Idx → α) (l : S1x16.Idx) : shapeCast S1x16 x shapeCasts_S16_S1x16 l = x (ix1 (l 1)) := by
  refine shapeCast_apply x _ l _ ((Shape.rowMajor_val_one (d := ![16]) _).trans (.trans ?_ (Shape.rowMajor_val_two (d := ![1, 16]) _).symm))
  have h : (l 0).val < 1 := (l 0).isLt
  show (l 1).val = (l 0).val * 16 + (l 1).val
  omega

end Cert.Proof.Pool
-- ==== Proof.Common.lean ====
/-
  The launch of the pooled-embedding program: the program as the launch theorem sees it, its resource algebra, and the
  buffers the SparseCore call and the host share.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.Pre_words_in_range
public import proofs.«01_k».proof.Proof.Offsets
public import proofs.«01_k».proof.Proof.Pool

@[expose] public section

set_option maxRecDepth 16384

noncomputable section

namespace Cert.Proof.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D : Defs nD τ sig (Elt F) (ΛP (F := F)) := Pipeline.defs pcfgs defs₀
abbrev 𝒱₀ : Variants := Variants.none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UP : Type := URounds (GSem nD τ sig) Unit
abbrev UU : Type := UH × (UP × Counters)

abbrev 𝕄 (F : FTy → Type) : Type := MT nD τ sig (HIx 1) (Elt F) ℕ UU ℕ

abbrev EH : Emb UH (𝕄 F) := embL
/-- The pipeline's rounds sit in the middle component. -/
abbrev EP : Emb UP (𝕄 F) := (Emb.inl : Emb UP (UP × Counters)).trans embR

/-- The SparseCore and the tile that the grid point names. -/
abbrev cV (L : grid0.Coords) : Fin τ.nSC := (L 0).castLE hcore0
abbrev jV (L : grid0.Coords) : Fin τ.nSub := (L 1).castLE hsub0
abbrev tile (d : Dev nD) (L : grid0.Coords) : Thread nD τ := V d (cV L) (jV L)

end Cert.Proof.Launch
-- ==== Proof.Blocks.lean ====
/-
  The blocks of the lists and of the pooled rows that the thirty-two tiles work on, and what each tile takes and gives back.
-/
module

public import proofs.«01_k».proof.Proof.Common

@[expose] public section

set_option maxRecDepth 16384

noncomputable section

namespace Cert.Proof.Tile

open Cert.KernelIdeal Cert.KernelIdeal.Gen Cert.Proof.Launch Cert.Proof.Pool Cert.Proof.Offsets

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The number of the tile at a grid point. -/
def nL (L : grid0.Coords) : Fin 32 := ⟨2 * (L 1).val + (L 0).val, by
  have h0 : (L 0).val < 2 := (L 0).isLt
  have h1 : (L 1).val < 16 := (L 1).isLt
  omega⟩

theorem wdiv : 32 ∣ S2048x100.size 0 := ⟨64, rfl⟩
theorem odiv : 32 ∣ S1024x128.size 0 := ⟨32, rfl⟩
/-- Tile `n`'s sixty-four lists and its thirty-two pooled rows. -/
abbrev wBlk (n : Fin 32) : Rect S2048x100 := Rect.part (s := S2048x100) (a₀ := 0) wdiv n
abbrev oBlk (n : Fin 32) : Rect S1024x128 := Rect.part (s := S1024x128) (a₀ := 0) odiv n

abbrev lLoc (d : Dev nD) : Loc nD τ sig := (SparseCore.T d).loc main_v0
abbrev eLoc (d : Dev nD) : Loc nD τ sig := (SparseCore.T d).loc main_arg1
abbrev pLoc (d : Dev nD) : Loc nD τ sig := (SparseCore.T d).loc main_v16

/-- The blocks as a tile addresses them. -/
abbrev lists (L : grid0.Coords) : Memref sig .scVector .hbm S64x100 .i32 :=
  (Memref.whole main_v0_scv : Memref sig .scVector .hbm S2048x100 .i32).slice (Rect.unit (s := S2048x100) (k0_off1 L) S64x100.size (k0_off1_inb L)) (fun _ => rfl)
abbrev rows (L : grid0.Coords) : Memref sig .scVector .hbm S32x128 .f32 :=
  (Memref.whole main_v16_scv : Memref sig .scVector .hbm S1024x128 .f32).slice (Rect.unit (s := S1024x128) (k0_off47 L) S32x128.size (k0_off47_inb L)) (fun _ => rfl)

theorem wBlk_eq (L : grid0.Coords) : Rect.unit (s := S2048x100) (k0_off1 L) S64x100.size (k0_off1_inb L) = wBlk (nL L) := by
  unfold wBlk Rect.part Rect.block
  congr 1 <;> funext a
  · rw [k0_off1_eq]
    match a with
    | 0 => show 128 * (L 1).val + 64 * (L 0).val = (2 * (L 1).val + (L 0).val) * (2048 / 32); omega
    | 1 => simp [Shape.partIx, Shape.partSize]
  · match a with
    | 0 => simp [Shape.partSize]
    | 1 => simp [Shape.partSize]

theorem oBlk_eq (L : grid0.Coords) : Rect.unit (s := S1024x128) (k0_off47 L) S32x128.size (k0_off47_inb L) = oBlk (nL L) := by
  unfold oBlk Rect.part Rect.block
  congr 1 <;> funext a
  · rw [k0_off47_eq]
    match a with
    | 0 => show 64 * (L 1).val + 32 * (L 0).val = (2 * (L 1).val + (L 0).val) * (1024 / 32); omega
    | 1 => simp [Shape.partIx, Shape.partSize]
  · match a with
    | 0 => simp [Shape.partSize]
    | 1 => simp [Shape.partSize]

theorem set_lists (L : grid0.Coords) : (lists L).view.set = (wBlk (nL L)).set := by
  show ((View.whole (main_v0_scv : Ref sig .scVector)).slice (Rect.unit (s := S2048x100) (k0_off1 L) S64x100.size (k0_off1_inb L))).set = _
  rw [View.set_slice, wBlk_eq]
  exact Finset.map_refl
theorem set_rows (L : grid0.Coords) : (rows L).view.set = (oBlk (nL L)).set := by
  show ((View.whole (main_v16_scv : Ref sig .scVector)).slice (Rect.unit (s := S1024x128) (k0_off47 L) S32x128.size (k0_off47_inb L))).set = _
  rw [View.set_slice, oBlk_eq]
  exact Finset.map_refl

/-- Tile `n`'s share of the table. -/
abbrev eq (n : Fin 32) : PosShare TreeShare := pieceOf fullShare 32 (by decide) n

/-- What tile `n` holds: its lists, its share of the table, its rows of the result at `g`. -/
def piecesAt (d : Dev nD) (fw : Buf (Elt F) (lLoc d)) (fe : Buf (Elt F) (eLoc d)) (g : Buf (Elt F) (pLoc d)) (n : Fin 32) : sProp (𝕄 F) :=
  iprop((lLoc d ↦[(wBlk n).set]{fullShare} fw) ∗ (eLoc d ↦{eq n} fe) ∗ (pLoc d ↦[(oBlk n).set]{fullShare} g))

/-- The three buffers whole are the thirty-two tiles' pieces. -/
theorem whole_pieces (d : Dev nD) (fw : Buf (Elt F) (lLoc d)) (fe : Buf (Elt F) (eLoc d)) (g : Buf (Elt F) (pLoc d)) :
    (iprop((lLoc d ↦{fullShare} fw) ∗ (eLoc d ↦{fullShare} fe) ∗ (pLoc d ↦{fullShare} g)) : sProp (𝕄 F)) = bigSep Finset.univ (piecesAt d fw fe g) := by
  have hw : (lLoc d ↦{fullShare} fw : sProp (𝕄 F)) = bigSep Finset.univ fun n : Fin 32 => lLoc d ↦[(wBlk n).set]{fullShare} fw := by
    rw [← pointsTo_biUnion Finset.univ (ℓ := lLoc d) (fun n : Fin 32 => (wBlk n).set) (fun i _ j _ h => Rect.part_disjoint wdiv h),
      show (Finset.univ : Finset (Fin 32)).biUnion (fun n => (wBlk n).set) = Finset.univ from Rect.biUnion_part wdiv]
  have ho : (pLoc d ↦{fullShare} g : sProp (𝕄 F)) = bigSep Finset.univ fun n : Fin 32 => pLoc d ↦[(oBlk n).set]{fullShare} g := by
    rw [← pointsTo_biUnion Finset.univ (ℓ := pLoc d) (fun n : Fin 32 => (oBlk n).set) (fun i _ j _ h => Rect.part_disjoint odiv h),
      show (Finset.univ : Finset (Fin 32)).biUnion (fun n => (oBlk n).set) = Finset.univ from Rect.biUnion_part odiv]
  unfold piecesAt
  rw [hw, ho, pointsTo_piecesOf Finset.univ fe (o := 32) (by decide) fullShare, bigSep_sep', bigSep_sep']

/-- The same by SparseCore and tile. -/
theorem pieces_cores (Φ : Fin 32 → sProp (𝕄 F)) :
    bigSep Finset.univ Φ = bigSep Finset.univ fun c : Fin 2 => bigSep Finset.univ fun i : Fin 16 => Φ (finProdFinEquiv (i, c)) := by
  rw [bigSep_univ_equiv ((Equiv.prodComm (Fin 2) (Fin 16)).trans finProdFinEquiv) Φ, bigSep_univ_prod]
  rfl

/-- The pooled rows, from the lists and the table: row `R` pools lists `2 R` and `2 R + 1`. -/
def pooledRows (fe : S1000000x128.Idx → Elt F .f32) (fw : S2048x100.Idx → Elt F .i32) : S1024x128.Idx → Elt F .f32 := fun x =>
  pooled fe (fun k => fw (ix2 (Fin.ofNat 2048 (2 * (x 0).val)) k)) (fun k => fw (ix2 (Fin.ofNat 2048 (2 * (x 0).val + 1)) k)) (x 1)

end Cert.Proof.Tile
-- ==== Proof.Inner.lean ====
/-
  A tile's inner loop: the running maximum down the hundred rows of a landed list, eight vectors at a time.
-/
module

public import proofs.«01_k».proof.Proof.Common

@[expose] public section

set_option maxRecDepth 16384

noncomputable section

namespace Cert.Proof.Tile

open Cert.KernelIdeal Cert.KernelIdeal.Gen Cert.Proof.Launch Cert.Proof.Pool Cert.Proof.Offsets

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- Sixteen lanes loaded from row `r`, column `16 c`. -/
theorem load_lanes {m : ℕ} {arg : Memref sig .scVector .vmem ⟨2, ![m, 128]⟩ .f32} {d : Dev nD} {L : grid0.Coords} {f : Buf (Elt F) (arg.view.loc (tile d L))}
    {G : (⟨2, ![m, 128]⟩ : Shape).Idx → Elt F .f32} (hG : arg.view.read (Elt F) f = G) {off : Fin 2 → ℕ} (h : ∀ a, off a + S1x16.size a ≤ (⟨2, ![m, 128]⟩ : Shape).size a)
    (r : Fin m) (c : Fin 8) (ho : off = ![r.val, 16 * c.val]) :
    shapeCast S16 (arg.view.readAt (Elt F) (Rect.unit (s := ⟨2, ![m, 128]⟩) off S1x16.size h).toLoadRect f) shapeCasts_S1x16_S16 = lanes (fun j => G (ix2 r j)) c := by
  subst ho hG
  funext l
  rw [cast_row]
  show arg.view.read (Elt F) f _ = arg.view.read (Elt F) f _
  congr 1
  funext a
  match a with
  | ⟨0, _⟩ => exact Fin.ext (by simp [Rect.unit])
  | ⟨1, _⟩ => exact Fin.ext (by simp [Rect.unit])

/-- One more row taken into the running maximum, sixteen lanes of it. -/
theorem step_lanes {arg : Memref sig .scVector .vmem S100x128 .f32} {d : Dev nD} {L : grid0.Coords} {f : Buf (Elt F) (arg.view.loc (tile d L))}
    {G : S100x128.Idx → Elt F .f32} (hG : arg.view.read (Elt F) f = G) {off : Fin 2 → ℕ} (h : ∀ a, off a + S1x16.size a ≤ S100x128.size a)
    (n : ℕ) (hn : n + 1 < 100) (c : Fin 8) (ho : off = ![n + 1, 16 * c.val]) :
    maximumf (lanes (colMax G n) c) (shapeCast S16 (arg.view.readAt (Elt F) (Rect.unit (s := S100x128) off S1x16.size h).toLoadRect f) shapeCasts_S1x16_S16)
      = lanes (colMax G (n + 1)) c := by
  have e : (Fin.ofNat 100 (n + 1)).val = n + 1 := Nat.mod_eq_of_lt hn
  refine (congrArg (maximumf _) (load_lanes hG h (Fin.ofNat 100 (n + 1)) c (by rw [e]; exact ho))).trans ?_
  rfl

section
variable (i : grid0.Coords) (arg2 : Memref sig .scVector .hbm S2048x100 .i32) (harg2 : arg2.IsWhole) (arg3 : Memref sig .scVector .hbm S1000000x128 .f32) (harg3 : arg3.IsWhole) (arg4 : Memref sig .scVector .hbm S1024x128 .f32) (harg4 : arg4.IsWhole) (arg5 : Memref sig .scVector .vmem S64x100 .i32) (harg5 : arg5.IsWhole) (arg6 : Memref sig .scVector .vmem S100x128 .f32) (harg6 : arg6.IsWhole) (arg7 : Memref sig .scVector .vmem S100x128 .f32) (harg7 : arg7.IsWhole) (arg8 : Memref sig .scVector .vmem S100x128 .f32) (harg8 : arg8.IsWhole) (arg9 : Memref sig .scVector .vmem S100x128 .f32) (harg9 : arg9.IsWhole) (arg10 : Memref sig .scVector .vmem S32x128 .f32) (harg10 : arg10.IsWhole)
  (arg11 arg12 arg13 arg14 v17_r0 v17_r1 : DmaSems sig S_)

/-- The inner loop over a landed list: it starts from the first row and ends with the maximum down all hundred. -/
theorem inner_for (d : Dev nD) (t1 : Fin k0_t1_loop.trips) {G : S100x128.Idx → Elt F .f32} {f : Buf (Elt F) (arg6.view.loc (tile d i))}
    (hG : arg6.view.read (Elt F) f = G) (Q : _ → sProp (𝕄 F)) :
    iprop((arg6.view.loc (tile d i) ↦{fullShare} f) ∗ ((arg6.view.loc (tile d i) ↦{fullShare} f) -∗ Q (octet (colMax G 99))))
      ⊢ wp frame (wpE (defs₀ (F := F)) 𝒱₀ (tile d i) none) Set.univ
          (Scf.Loop.for k0_t2_loop k0_t2_ok (octet (colMax G 0)) (k0_t2_body (F := F) i arg2 harg2 arg3 harg3 arg4 harg4 arg5 harg5 arg6 harg6 arg7 harg7 arg8 harg8 arg9 harg9 arg10 harg10 arg11 arg12 arg13 arg14 v17_r0 v17_r1 0#32 1#32 t1)) Q := by
  iintro ⟨Hf, HQ⟩
  sl_for (fun n (acc : _) => iprop(⌜acc = octet (colMax G n)⌝ ∗ (arg6.view.loc (tile d i) ↦{fullShare} f))) $$ [Hf HQ]
  case region =>
    intro n acc
    iintro ⟨%hacc, Hf⟩
    subst hacc
    sl_exec
    have hn : n.val + 1 < 100 := Nat.add_lt_add_right (Nat.lt_of_lt_of_eq n.isLt trips2) 1
    sl_step
    isplitr
    · ipureintro
      refine Prod.ext (step_lanes hG _ _ hn 0 (k0_off3_eq n)) (Prod.ext (step_lanes hG _ _ hn 1 (k0_off4_eq n)) (Prod.ext (step_lanes hG _ _ hn 2 (k0_off5_eq n))
        (Prod.ext (step_lanes hG _ _ hn 3 (k0_off6_eq n)) (Prod.ext (step_lanes hG _ _ hn 4 (k0_off7_eq n)) (Prod.ext (step_lanes hG _ _ hn 5 (k0_off8_eq n))
          (Prod.ext (step_lanes hG _ _ hn 6 (k0_off9_eq n)) (step_lanes hG _ _ hn 7 (k0_off10_eq n))))))))
    · iexact Hf
  isplitl [Hf]
  · isplitr
    · ipureintro; rfl
    · iexact Hf
  iintro %acc ⟨%hacc, Hf⟩
  subst hacc
  irw [show Scf.trips k0_t2_loop.lb k0_t2_loop.ub k0_t2_loop.st = 99 from trips2]
  iapply HQ $$ Hf
/-- The eight loads of the first row are the first stage of the maximum. -/
theorem first_octet {d : Dev nD} {G : S100x128.Idx → Elt F .f32} {f : Buf (Elt F) (arg6.view.loc (tile d i))} (hG : arg6.view.read (Elt F) f = G) :
    ((shapeCast S16 (arg6.view.readAt (Elt F) (Rect.unit (s := S100x128) ![0, 0] S1x16.size inb_S100x128_S1x16_0_0).toLoadRect f) shapeCasts_S1x16_S16,
      shapeCast S16 (arg6.view.readAt (Elt F) (Rect.unit (s := S100x128) ![0, 16] S1x16.size inb_S100x128_S1x16_0_16).toLoadRect f) shapeCasts_S1x16_S16,
      shapeCast S16 (arg6.view.readAt (Elt F) (Rect.unit (s := S100x128) ![0, 32] S1x16.size inb_S100x128_S1x16_0_32).toLoadRect f) shapeCasts_S1x16_S16,
      shapeCast S16 (arg6.view.readAt (Elt F) (Rect.unit (s := S100x128) ![0, 48] S1x16.size inb_S100x128_S1x16_0_48).toLoadRect f) shapeCasts_S1x16_S16,
      shapeCast S16 (arg6.view.readAt (Elt F) (Rect.unit (s := S100x128) ![0, 64] S1x16.size inb_S100x128_S1x16_0_64).toLoadRect f) shapeCasts_S1x16_S16,
      shapeCast S16 (arg6.view.readAt (Elt F) (Rect.unit (s := S100x128) ![0, 80] S1x16.size inb_S100x128_S1x16_0_80).toLoadRect f) shapeCasts_S1x16_S16,
      shapeCast S16 (arg6.view.readAt (Elt F) (Rect.unit (s := S100x128) ![0, 96] S1x16.size inb_S100x128_S1x16_0_96).toLoadRect f) shapeCasts_S1x16_S16,
      shapeCast S16 (arg6.view.readAt (Elt F) (Rect.unit (s := S100x128) ![0, 112] S1x16.size inb_S100x128_S1x16_0_112).toLoadRect f) shapeCasts_S1x16_S16)
      : FVec F S16 .f32 × FVec F S16 .f32 × FVec F S16 .f32 × FVec F S16 .f32 × FVec F S16 .f32 × FVec F S16 .f32 × FVec F S16 .f32 × FVec F S16 .f32)
      = octet (colMax G 0) :=
  Prod.ext (load_lanes (m := 100) hG _ 0 0 rfl) (Prod.ext (load_lanes (m := 100) hG _ 0 1 rfl) (Prod.ext (load_lanes (m := 100) hG _ 0 2 rfl)
    (Prod.ext (load_lanes (m := 100) hG _ 0 3 rfl) (Prod.ext (load_lanes (m := 100) hG _ 0 4 rfl) (Prod.ext (load_lanes (m := 100) hG _ 0 5 rfl)
      (Prod.ext (load_lanes (m := 100) hG _ 0 6 rfl) (load_lanes (m := 100) hG _ 0 7 rfl)))))))

/-- A phase's loop, from its eight loads on, before whatever follows. -/
theorem phase_for (d : Dev nD) (t1 : Fin k0_t1_loop.trips) {G : S100x128.Idx → Elt F .f32} {f : Buf (Elt F) (arg6.view.loc (tile d i))}
    (hG : arg6.view.read (Elt F) f = G) {p : Prog _ _} {α : Type} (k : _ → Prog _ α) (Q : α → sProp (𝕄 F))
    (hp : p = Scf.Loop.for k0_t2_loop k0_t2_ok (octet (colMax G 0)) (k0_t2_body (F := F) i arg2 harg2 arg3 harg3 arg4 harg4 arg5 harg5 arg6 harg6 arg7 harg7 arg8 harg8 arg9 harg9 arg10 harg10 arg11 arg12 arg13 arg14 v17_r0 v17_r1 0#32 1#32 t1)) :
    iprop((arg6.view.loc (tile d i) ↦{fullShare} f) ∗ ((arg6.view.loc (tile d i) ↦{fullShare} f)
        -∗ wp frame (wpE (defs₀ (F := F)) 𝒱₀ (tile d i) none) Set.univ
            (k (lanes (colMax G 99) 0, lanes (colMax G 99) 1, lanes (colMax G 99) 2, lanes (colMax G 99) 3, lanes (colMax G 99) 4, lanes (colMax G 99) 5, lanes (colMax G 99) 6, lanes (colMax G 99) 7)) Q))
      ⊢ wp frame (wpE (defs₀ (F := F)) 𝒱₀ (tile d i) none) Set.univ (p >>= k) Q := by
  subst hp
  rw [wp_bind]
  exact inner_for i arg2 harg2 arg3 harg3 arg4 harg4 arg5 harg5 arg6 harg6 arg7 harg7 arg8 harg8 arg9 harg9 arg10 harg10 arg11 arg12 arg13 arg14 v17_r0 v17_r1 d t1 hG (fun a => wp frame (wpE (defs₀ (F := F)) 𝒱₀ (tile d i) none) Set.univ (k a) Q)
end
end Cert.Proof.Tile
-- ==== Proof.Slot.lean ====
/-
  One of a tile's four landing buffers, with its semaphore, its share of the table and its share of the word lists: at rest
  (`Idle`) or with the gather of a list under way (`InFlight`); the issue of a gather and the wait for it move between the
  two, the wait handing over the buffer at the rows the list names.
-/
module

public import proofs.«01_k».proof.Proof.Inner

@[expose] public section

set_option maxRecDepth 16384

noncomputable section

namespace Cert.Proof.Tile

open Cert.KernelIdeal Cert.KernelIdeal.Gen Cert.Proof.Launch Cert.Proof.Pool Cert.Proof.Offsets

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

section
variable (d : Dev nD) (L : grid0.Coords)
variable (tab : Memref sig .scVector .hbm S1000000x128 .f32) (lists : Memref sig .scVector .vmem S64x100 .i32)
variable (dst : Memref sig .scVector .vmem S100x128 .f32) (sem : DmaSem sig)
variable (q qo : PosShare TreeShare) (fe : Buf (Elt F) (tab.view.loc (tile d L))) (fi : Buf (Elt F) (lists.view.loc (tile d L)))

/-- The words of list `ρ`. -/
def words (ρ : ℕ) : Fin 100 → BitVec 32 := fun k => lists.view.read (Elt F) fi (ix2 (Fin.ofNat 64 ρ) k)

/-- The table rows that list `ρ` names. -/
abbrev listRows (ρ : ℕ) : S100x128.Idx → Elt F .f32 := gath (tab.view.read (Elt F) fe) (words (F := F) d L lists fi ρ)

/-- The buffer at rest, its semaphore at zero, its shares at hand. -/
def Idle : sProp (𝕄 F) :=
  iprop((∃ fd : Buf (Elt F) (dst.view.loc (tile d L)), dst.view.loc (tile d L) ↦{fullShare} fd) ∗ (tab.view.loc (tile d L) ↦{q} fe)
    ∗ (lists.view.loc (tile d L) ↦{qo} fi) ∗ semVal (tile d L, SemLoc.dma sem) 0)

/-- The buffer holding `G`. -/
def Landed (G : S100x128.Idx → Elt F .f32) : sProp (𝕄 F) :=
  iprop(∃ f : Buf (Elt F) (dst.view.loc (tile d L)), ⌜dst.view.read (Elt F) f = G⌝ ∗ dst.view.loc (tile d L) ↦{fullShare} f)

/-- The gather of list `ρ` under way. -/
def InFlight (ρ : ℕ) : sProp (𝕄 F) :=
  Transfers.Flight countersEmb (tile d L) (.dma sem) (default : HIx 1) dst.view.dmaCredit
    iprop(Landed d L dst (listRows d L tab lists fe fi ρ) ∗ (tab.view.loc (tile d L) ↦{q} fe) ∗ (lists.view.loc (tile d L) ↦{qo} fi))

/-- The words of the list a gather reads, as the gather addresses them. -/
theorem list_read {off : Fin 2 → ℕ} (h : ∀ a, off a + S1x100.size a ≤ S64x100.size a) (ρ : ℕ) (hρ : ρ < 64) (ho : off = ![ρ, 0]) (k : S100.Idx) :
    ((lists.slice (Rect.unit (s := S64x100) off S1x100.size h) (fun _ => rfl)).squeeze S100 squeezes_S1x100_S100).view.read (Elt F) fi k
      = words d L lists fi ρ (k 0) := by
  subst ho
  have e : Shape.reshapeEquiv squeezes_S1x100_S100.numel_eq k = (ix2 0 (k 0) : S1x100.Idx) := by
    refine Shape.reshapeEquiv_eq_of_rowMajor _ ((Shape.rowMajor_val_two (d := ![1, 100]) _).trans (.trans ?_ (Shape.rowMajor_val_one (d := ![100]) _).symm))
    show 0 * 100 + (k 0).val = (k 0).val
    omega
  show lists.view.read (Elt F) fi ((Rect.unit (s := S64x100) ![ρ, 0] S1x100.size h).idx (Shape.reshapeEquiv squeezes_S1x100_S100.numel_eq k)) = lists.view.read (Elt F) fi _
  rw [e]
  congr 1
  funext a
  match a with
  | ⟨0, _⟩ => exact Fin.ext (by simp [Rect.unit, Nat.mod_eq_of_lt hρ])
  | ⟨1, _⟩ => exact Fin.ext (by simp [Rect.unit])

/-- What a gather lands is the rows its list names. -/
theorem gather_eq {off : Fin 2 → ℕ} (h : ∀ a, off a + S1x100.size a ≤ S64x100.size a) (ρ : ℕ) (hρ : ρ < 64) (ho : off = ![ρ, 0])
    (hin : ∀ x, (((lists.slice (Rect.unit (s := S64x100) off S1x100.size h) (fun _ => rfl)).squeeze S100 squeezes_S1x100_S100).view.read (Elt F) fi x).toNat
      < S1000000x128.size gathers_S1000000x128_S100x128.axis) :
    SparseCore.gatherPayload gathers_S1000000x128_S100x128
      ((tab.slice (Rect.unit (s := S1000000x128) ![0, 0] S1000000x128.size inb_S1000000x128_S1000000x128_0_0) (fun _ => rfl)).view.read (Elt F) fe)
      (SparseCore.rows (((lists.slice (Rect.unit (s := S64x100) off S1x100.size h) (fun _ => rfl)).squeeze S100 squeezes_S1x100_S100).view.read (Elt F) fi) rfl hin)
    = listRows d L tab lists fe fi ρ := by
  subst ho
  funext x
  unfold SparseCore.gatherPayload listRows gath
  show tab.view.read (Elt F) fe _ = tab.view.read (Elt F) fe _
  congr 1
  funext a
  match a with
  | ⟨0, _⟩ =>
    refine Fin.ext ?_
    have hk := list_read (F := F) d L lists fi h ρ hρ rfl
    have hs : ∀ y : Fin S100.numel, ((S100.rowMajor.symm y) 0).val = y.val := fun y =>
      (Shape.rowMajor_val_one (d := ![100]) _).symm.trans (congrArg Fin.val (S100.rowMajor.apply_symm_apply y))
    have hr : ∀ y : Fin (S100x128.size gathers_S1000000x128_S100x128.axis'),
        (SparseCore.rows (((lists.slice (Rect.unit (s := S64x100) ![ρ, 0] S1x100.size h) (fun _ => rfl)).squeeze S100 squeezes_S1x100_S100).view.read (Elt F) fi)
          rfl hin y).val = (words d L lists fi ρ y).toNat := fun y => by
      refine (congrArg BitVec.toNat (hk _)).trans (congrArg (fun z => (words d L lists fi ρ z).toNat) (Fin.ext ?_))
      exact hs _
    have hx : (words d L lists fi ρ (x 0)).toNat < 1000000 := by
      have := hin (ix1 (x 0)); rwa [hk] at this
    have hi := (congrArg Fin.val (Shape.Gathers.idx_axis gathers_S1000000x128_S100x128 (SparseCore.rows (((lists.slice (Rect.unit (s := S64x100) ![ρ, 0] S1x100.size h)
      (fun _ => rfl)).squeeze S100 squeezes_S1x100_S100).view.read (Elt F) fi) rfl hin) x)).trans (hr (x 0))
    show 0 + 1 * _ = (words d L lists fi ρ (x 0)).toNat % 1000000
    rw [Nat.mod_eq_of_lt hx, Nat.one_mul, Nat.zero_add]
    exact hi
  | ⟨1, _⟩ =>
    refine Fin.ext ?_
    show 0 + 1 * _ = (x 1).val
    rw [Nat.one_mul, Nat.zero_add]
    exact Shape.Gathers.idx_of_ne gathers_S1000000x128_S100x128 _ x 1 (by decide)

/-- The issue of a gather. -/
theorem fire (hcr : ∀ s' : Shape, sig.dmaCredit .scVector (Kind.scVector.table .vmem) dst.view.buf s' .f32 = s'.numel * EltTy.f32.bits)
    (hin : ∀ x, (lists.view.read (Elt F) fi x).toNat < 1000000)
    {off : Fin 2 → ℕ} (h : ∀ a, off a + S1x100.size a ≤ S64x100.size a) (ρ : ℕ) (hρ : ρ < 64) (ho : off = ![ρ, 0]) {hw}
    (Q : PUnit → sProp (𝕄 F)) :
    iprop(Idle d L tab lists dst sem q qo fe fi ∗ (InFlight d L tab lists dst sem q qo fe fi ρ -∗ Q ⟨⟩))
      ⊢ wp frame (wpE (defs₀ (F := F)) 𝒱₀ (tile d L) none) Set.univ
          (SparseCore.enqueueIndirectGather rfl (tab.slice (Rect.unit (s := S1000000x128) ![0, 0] S1000000x128.size inb_S1000000x128_S1000000x128_0_0) (fun _ => rfl)) dst
            gathers_S1000000x128_S100x128 ((lists.slice (Rect.unit (s := S64x100) off S1x100.size h) (fun _ => rfl)).squeeze S100 squeezes_S1x100_S100) rfl sem hw rfl (Or.inl rfl)) Q := by
  have hin' : ∀ x, (((lists.slice (Rect.unit (s := S64x100) off S1x100.size h) (fun _ => rfl)).squeeze S100 squeezes_S1x100_S100).view.read (Elt F) fi x).toNat
      < S1000000x128.size gathers_S1000000x128_S100x128.axis := fun x => hin _
  unfold Idle
  iintro ⟨⟨⟨%fd, Hd⟩, Ht, Hl, Hs⟩, Hk⟩
  iapply (SparseCore.wp_gatherFromWhole countersEmb 𝒱₀ (tile d L) none (default : HIx 1) dst.view.dmaCredit
    (SparseCore.sum_rowCredit_eq_dmaCredit dst _ hcr) (by decide) hin' (hp := rfl) (hsrc := hw) (he := rfl) (hsp := Or.inl rfl) (hr := by decide) (k := Prog.ret)) $$ [Hd Ht Hl Hs]
  · iframe Hd Ht Hl Hs
  iintro Hfl
  irw [wp_ret]
  imodintro
  iapply Hk
  unfold InFlight
  iapply (Transfers.Flight_mono countersEmb (tile d L) (show _ ⊢ _ from ?_)) $$ Hfl
  iintro ⟨Hd, Ht, Hl⟩
  iframe Ht Hl
  unfold Landed
  iexists (dst.view.write (Elt F) fd (SparseCore.gatherPayload gathers_S1000000x128_S100x128
      ((tab.slice (Rect.unit (s := S1000000x128) ![0, 0] S1000000x128.size inb_S1000000x128_S1000000x128_0_0) (fun _ => rfl)).view.read (Elt F) fe)
      (SparseCore.rows (((lists.slice (Rect.unit (s := S64x100) off S1x100.size h) (fun _ => rfl)).squeeze S100 squeezes_S1x100_S100).view.read (Elt F) fi) rfl hin')) Finset.univ)
  isplitr
  · ipureintro
    exact (View.read_write_univ _ _).trans (gather_eq d L tab lists fe fi h ρ hρ ho hin')
  · iexact Hd

/-- The wait for it. -/
theorem land (ρ : ℕ) (O : CellTallies nD τ sig (HIx 1)) (W : Waits sig (HIx 1)) {hw hw'} (Q : PUnit → sProp (𝕄 F)) :
    iprop(InFlight d L tab lists dst sem q qo fe fi ρ ∗ owes (tile d L) O W ∗ Transfers.MayWaits (tile d L) (default : HIx 1) O
        ∗ (iprop(Landed d L dst (listRows d L tab lists fe fi ρ) ∗ (tab.view.loc (tile d L) ↦{q} fe) ∗ (lists.view.loc (tile d L) ↦{qo} fi)
            ∗ semVal (tile d L, SemLoc.dma sem) 0 ∗ owes (tile d L) O (insert (SemLoc.dma sem, (default : HIx 1)) W))
          -∗ Q ⟨⟩))
      ⊢ wp frame (wpE (defs₀ (F := F)) 𝒱₀ (tile d L) none) Set.univ
          (.op (.waitDma2 sem (tab.slice (Rect.unit (s := S1000000x128) ![0, 0] S1000000x128.size inb_S1000000x128_S1000000x128_0_0) (fun _ => rfl)) dst hw hw') fun _ => .ret ⟨⟩) Q := by
  unfold InFlight
  iintro ⟨Hfl, HO, Hmw, Hk⟩
  ihave Hm := (Transfers.MayWaits.elim (SemLoc.dma sem)) $$ Hmw
  iapply (Transfers.wp_waitLocalO countersEmb 𝒱₀ (tile d L) none (default : HIx 1) rfl (k := Prog.ret)) $$ [Hfl HO Hm]
  · iframe Hfl HO Hm
  iintro ⟨⟨Hd, Ht, Hl⟩, Hs, HO⟩
  irw [wp_ret]
  imodintro
  iapply Hk
  iframe Hd Ht Hl Hs HO

/-- The buffer of phase `b` before trip `t`: the gather of list `4t + b` under way, or at rest once the lists are done. -/
def Slot (b t : ℕ) : sProp (𝕄 F) :=
  if t < 16 then InFlight d L tab lists dst sem q qo fe fi (4 * t + b) else Idle d L tab lists dst sem q qo fe fi

theorem Slot_lt {b t : ℕ} (ht : t < 16) : Slot d L tab lists dst sem q qo fe fi b t = InFlight d L tab lists dst sem q qo fe fi (4 * t + b) := if_pos ht
theorem Slot_end {b t : ℕ} (ht : ¬ t < 16) : Slot d L tab lists dst sem q qo fe fi b t = Idle d L tab lists dst sem q qo fe fi := if_neg ht

/-- A phase's end: the next trip's gather is issued when there is a next trip. -/
theorem fire_if (hcr : ∀ s' : Shape, sig.dmaCredit .scVector (Kind.scVector.table .vmem) dst.view.buf s' .f32 = s'.numel * EltTy.f32.bits)
    (hin : ∀ x, (lists.view.read (Elt F) fi x).toNat < 1000000)
    {c : BitVec 1} {b t : ℕ} (hb : b < 4) (ht : t < 16) (hc : c = 1#1 ↔ t < 15)
    {off : Fin 2 → ℕ} (h : c = 1#1 → ∀ a, off a + S1x100.size a ≤ S64x100.size a) (ho : off = ![4 * t + (4 + b), 0]) {hw}
    {α : Type} (k : Prog _ α) (Q : α → sProp (𝕄 F)) :
    iprop(Idle d L tab lists dst sem q qo fe fi ∗ (Slot d L tab lists dst sem q qo fe fi b (t + 1)
        -∗ wp frame (wpE (defs₀ (F := F)) 𝒱₀ (tile d L) none) Set.univ k Q))
      ⊢ wp frame (wpE (defs₀ (F := F)) 𝒱₀ (tile d L) none) Set.univ
          (if hh : c = 1#1 then
            SparseCore.enqueueIndirectGather rfl (tab.slice (Rect.unit (s := S1000000x128) ![0, 0] S1000000x128.size inb_S1000000x128_S1000000x128_0_0) (fun _ => rfl)) dst
              gathers_S1000000x128_S100x128 ((lists.slice (Rect.unit (s := S64x100) off S1x100.size (h hh)) (fun _ => rfl)).squeeze S100 squeezes_S1x100_S100) rfl sem hw rfl (Or.inl rfl)
              >>= fun _ => k
          else k) Q := by
  by_cases hh : c = 1#1
  · have ht' : t + 1 < 16 := by have := hc.mp hh; omega
    rw [dif_pos hh, Slot_lt _ _ _ _ _ _ _ _ _ _ ht', wp_bind]
    iintro ⟨HI, Hk⟩
    iapply (fire d L tab lists dst sem q qo fe fi hcr hin (h hh) (4 * (t + 1) + b) (by omega) (by rw [ho]; congr 1; omega))
    iframe HI Hk
  · have ht' : ¬ t + 1 < 16 := fun e => hh (hc.mpr (by omega))
    rw [dif_neg hh, Slot_end _ _ _ _ _ _ _ _ _ _ ht']
    iintro ⟨HI, Hk⟩
    iapply Hk $$ HI

end
end Cert.Proof.Tile
-- ==== Proof.Rows.lean ====
/-
  The accumulator's rows: what the eight stores of a phase leave, and the account kept of which lists are taken in.
-/
module

public import proofs.«01_k».proof.Proof.Inner

@[expose] public section

set_option maxRecDepth 16384

noncomputable section

namespace Cert.Proof.Tile

open Cert.KernelIdeal Cert.KernelIdeal.Gen Cert.Proof.Launch Cert.Proof.Pool Cert.Proof.Offsets

open Idealize.ShloMosaic
open Idealize.SL Idealize.SL.RA Idealize.SL.BI

variable {F : FTy → Type} [FloatOps F]

/-- What the accumulator `A` holds once `k` lists are taken in, list `ρ`'s pooled row being `R ρ`: a row both of whose lists
    are taken holds their maximum, a row whose first list only is taken holds that. -/
def AccOK (R : ℕ → Fin 128 → Elt F .f32) (k : ℕ) (A : S32x128.Idx → Elt F .f32) : Prop :=
  ∀ (r : Fin 32) (j : Fin 128), (2 * r.val + 2 ≤ k → A (ix2 r j) = FloatOps.maximumf (R (2 * r.val) j) (R (2 * r.val + 1) j))
    ∧ (2 * r.val + 1 = k → A (ix2 r j) = R (2 * r.val) j)

theorem AccOK.even {R : ℕ → Fin 128 → Elt F .f32} {k : ℕ} {A A' : S32x128.Idx → Elt F .f32} (h : AccOK R k A) (ρ : Fin 32) (hk : k = 2 * ρ.val)
    (hA : ∀ r j, A' (ix2 r j) = if r = ρ then R k j else A (ix2 r j)) : AccOK R (k + 1) A' := by
  subst hk
  intro r j
  rw [hA]
  by_cases hr : r = ρ
  · subst hr
    rw [if_pos rfl]
    exact ⟨fun e => absurd e (by omega), fun _ => rfl⟩
  · have : r.val ≠ ρ.val := fun e => hr (Fin.ext e)
    rw [if_neg hr]
    exact ⟨fun e => (h r j).1 (by omega), fun e => absurd e (by omega)⟩

theorem AccOK.odd {R : ℕ → Fin 128 → Elt F .f32} {k : ℕ} {A A' : S32x128.Idx → Elt F .f32} (h : AccOK R k A) (ρ : Fin 32) (hk : k = 2 * ρ.val + 1)
    (hA : ∀ r j, A' (ix2 r j) = if r = ρ then FloatOps.maximumf (A (ix2 r j)) (R k j) else A (ix2 r j)) : AccOK R (k + 1) A' := by
  subst hk
  intro r j
  rw [hA]
  by_cases hr : r = ρ
  · subst hr
    rw [if_pos rfl, (h r j).2 rfl]
    exact ⟨fun _ => rfl, fun e => absurd e (by omega)⟩
  · have : r.val ≠ ρ.val := fun e => hr (Fin.ext e)
    rw [if_neg hr]
    exact ⟨fun e => (h r j).1 (by omega), fun e => absurd e (by omega)⟩

/-- A sixteen-lane store into row `ρ`, from column `16 c`, of a row's values. -/
def StoreOf (ρ : Fin 32) (f : Fin 128 → Elt F .f32) (c : Fin 8) (p : View.Piece (Elt F) S32x128 .f32) : Prop :=
  ∃ (off : Fin 2 → ℕ) (h : ∀ a, off a + S1x16.size a ≤ S32x128.size a), off = ![ρ.val, 16 * c.val]
    ∧ p = ⟨Rect.unit (s := S32x128) off S1x16.size h, shapeCast S1x16 (lanes f c) shapeCasts_S16_S1x16⟩

theorem StoreOf.val {ρ : Fin 32} {f : Fin 128 → Elt F .f32} {c : Fin 8} {p : View.Piece (Elt F) S32x128 .f32} (h : StoreOf ρ f c p) (x : p.1.shape.Idx) :
    p.2 x = f (p.1.emb x 1) := by
  obtain ⟨off, h, rfl, rfl⟩ := h
  show shapeCast S1x16 (lanes f c) shapeCasts_S16_S1x16 x = _
  rw [cast_vec]
  show f _ = f _
  congr 1
  exact Fin.ext (by simp [Rect.emb, Rect.unit, ix1])

theorem StoreOf.mem {ρ : Fin 32} {f : Fin 128 → Elt F .f32} {c : Fin 8} {p : View.Piece (Elt F) S32x128 .f32} (h : StoreOf ρ f c p) (r : Fin 32) (j : Fin 128) :
    ix2 r j ∈ p.1.set ↔ r = ρ ∧ j.val / 16 = c.val := by
  obtain ⟨off, h, rfl, rfl⟩ := h
  have hj := j.isLt
  rw [LoadRect.mem_set]
  constructor
  · intro H
    obtain ⟨a, ha, ea⟩ := H 0
    obtain ⟨b, hb, eb⟩ := H 1
    change a < 1 at ha
    change b < 16 at hb
    change r.val = ρ.val + 1 * a at ea
    change j.val = 16 * c.val + 1 * b at eb
    exact ⟨Fin.ext (by omega), by omega⟩
  · rintro ⟨rfl, hc⟩ a
    match a with
    | ⟨0, _⟩ => exact ⟨0, Nat.one_pos, by show r.val = r.val + 1 * 0; omega⟩
    | ⟨1, _⟩ => exact ⟨j.val % 16, Nat.mod_lt _ (by decide), by show j.val = 16 * c.val + 1 * (j.val % 16); omega⟩

/-- Eight stores that are a row's eight parts put the row there and leave the other rows alone. -/
theorem row_writes {m : Memref sig .scVector .vmem S32x128 .f32} (A : m.view.ty.Contents (Elt F)) (ρ : Fin 32) (f : Fin 128 → Elt F .f32)
    {L : List (View.Piece (Elt F) S32x128 .f32)} (hL : ∀ p ∈ L, ∃ c, StoreOf ρ f c p) (hc : ∀ c, ∃ p ∈ L, StoreOf ρ f c p) (r : Fin 32) (j : Fin 128) :
    m.view.read (Elt F) (m.view.writes (Elt F) A L) (ix2 r j) = if r = ρ then f j else m.view.read (Elt F) A (ix2 r j) := by
  by_cases hr : r = ρ
  · rw [if_pos hr]
    refine View.read_writes_apply_of_pieces m.view A (fun y => f (y 1)) L (fun p hp x => ?_) _ ?_
    · obtain ⟨c, h⟩ := hL p hp
      exact h.val x
    · obtain ⟨p, hp, h⟩ := hc ⟨j.val / 16, by have := j.isLt; omega⟩
      exact ⟨p, hp, (h.mem r j).mpr ⟨hr, rfl⟩⟩
  · rw [if_neg hr]
    refine View.read_writes_apply_of_forall_not_mem m.view A _ L fun p hp hm => ?_
    obtain ⟨c, h⟩ := hL p hp
    exact hr ((h.mem r j).mp hm).1

theorem forall₂_right {α β : Type _} {R : α → β → Prop} {l : List α} {l' : List β} (h : List.Forall₂ R l l') : ∀ y ∈ l', ∃ x ∈ l, R x y := by
  induction h with
  | nil => exact fun y hy => absurd hy List.not_mem_nil
  | cons hxy _ ih =>
    intro y hy
    rcases List.mem_cons.mp hy with rfl | hy
    · exact ⟨_, List.mem_cons_self, hxy⟩
    · obtain ⟨x, hx, h⟩ := ih y hy
      exact ⟨x, List.mem_cons_of_mem _ hx, h⟩

theorem forall₂_left {α β : Type _} {R : α → β → Prop} {l : List α} {l' : List β} (h : List.Forall₂ R l l') (x : α) (hx : x ∈ l) : ∃ y ∈ l', R x y := by
  obtain ⟨y, hy, h⟩ := forall₂_right h.flip x hx
  exact ⟨y, hy, h⟩

/-- The eight stores of phase `b` of trip `t`, of a row's values. -/
theorem phase_writes {m : Memref sig .scVector .vmem S32x128 .f32} {A : m.view.ty.Contents (Elt F)} {t : Fin k0_t1_loop.trips} {bv : BitVec 32} (b : Fin 4) (hb : bv = BitVec.ofNat 32 b.val)
    (ρ : Fin 32) (hρ : ρ.val = 2 * t.val + b.val / 2) (f : Fin 128 → Elt F .f32) {h0 h1 h2 h3 h4 h5 h6 h7} {w0 w1 w2 w3 w4 w5 w6 w7 : S1x16.Idx → Elt F .f32}
    (e0 : w0 = shapeCast S1x16 (lanes f 0) shapeCasts_S16_S1x16)
    (e1 : w1 = shapeCast S1x16 (lanes f 1) shapeCasts_S16_S1x16)
    (e2 : w2 = shapeCast S1x16 (lanes f 2) shapeCasts_S16_S1x16)
    (e3 : w3 = shapeCast S1x16 (lanes f 3) shapeCasts_S16_S1x16)
    (e4 : w4 = shapeCast S1x16 (lanes f 4) shapeCasts_S16_S1x16)
    (e5 : w5 = shapeCast S1x16 (lanes f 5) shapeCasts_S16_S1x16)
    (e6 : w6 = shapeCast S1x16 (lanes f 6) shapeCasts_S16_S1x16)
    (e7 : w7 = shapeCast S1x16 (lanes f 7) shapeCasts_S16_S1x16) (r : Fin 32) (j : Fin 128) :
    m.view.read (Elt F) (m.view.writes (Elt F) A
         [⟨Rect.unit (s := S32x128) (k0_off18 t bv) S1x16.size h7, w7⟩,
          ⟨Rect.unit (s := S32x128) (k0_off17 t bv) S1x16.size h6, w6⟩,
          ⟨Rect.unit (s := S32x128) (k0_off16 t bv) S1x16.size h5, w5⟩,
          ⟨Rect.unit (s := S32x128) (k0_off15 t bv) S1x16.size h4, w4⟩,
          ⟨Rect.unit (s := S32x128) (k0_off14 t bv) S1x16.size h3, w3⟩,
          ⟨Rect.unit (s := S32x128) (k0_off13 t bv) S1x16.size h2, w2⟩,
          ⟨Rect.unit (s := S32x128) (k0_off12 t bv) S1x16.size h1, w1⟩,
          ⟨Rect.unit (s := S32x128) (k0_off11 t bv) S1x16.size h0, w0⟩])
        (ix2 r j) = if r = ρ then f j else m.view.read (Elt F) A (ix2 r j) := by
  subst hb e0 e1 e2 e3 e4 e5 e6 e7
  have H : List.Forall₂ (fun (c : Fin 8) p => StoreOf ρ f c p) [7, 6, 5, 4, 3, 2, 1, 0] _ :=
    .cons ⟨_, h7, (off18_eq t b).trans (by rw [hρ]; rfl), rfl⟩ (
    .cons ⟨_, h6, (off17_eq t b).trans (by rw [hρ]; rfl), rfl⟩ (
    .cons ⟨_, h5, (off16_eq t b).trans (by rw [hρ]; rfl), rfl⟩ (
    .cons ⟨_, h4, (off15_eq t b).trans (by rw [hρ]; rfl), rfl⟩ (
    .cons ⟨_, h3, (off14_eq t b).trans (by rw [hρ]; rfl), rfl⟩ (
    .cons ⟨_, h2, (off13_eq t b).trans (by rw [hρ]; rfl), rfl⟩ (
    .cons ⟨_, h1, (off12_eq t b).trans (by rw [hρ]; rfl), rfl⟩ (
    .cons ⟨_, h0, (off11_eq t b).trans (by rw [hρ]; rfl), rfl⟩ .nil)))))))
  refine row_writes A ρ f (fun p hp => ?_) (fun c => ?_) r j
  · obtain ⟨c, -, h⟩ := forall₂_right H p hp
    exact ⟨c, h⟩
  · exact forall₂_left H c (by revert c; decide)

/-- The same when each part is the larger of what the row holds and the new values. -/
theorem phase_max {m : Memref sig .scVector .vmem S32x128 .f32} {d : Dev nD} {L : grid0.Coords} {A : Buf (Elt F) (m.view.loc (tile d L))} {t : Fin k0_t1_loop.trips} {bv : BitVec 32} (b : Fin 4) (hb : bv = BitVec.ofNat 32 b.val)
    (ρ : Fin 32) (hρ : ρ.val = 2 * t.val + b.val / 2) (g : Fin 128 → Elt F .f32) {h0 h1 h2 h3 h4 h5 h6 h7} {w0 w1 w2 w3 w4 w5 w6 w7 : S1x16.Idx → Elt F .f32}
    (e0 : w0 = shapeCast S1x16 (maximumf (shapeCast S16 (m.view.readAt (Elt F) (Rect.unit (s := S32x128) (k0_off11 t bv) S1x16.size h0).toLoadRect A) shapeCasts_S1x16_S16) (lanes g 0)) shapeCasts_S16_S1x16)
    (e1 : w1 = shapeCast S1x16 (maximumf (shapeCast S16 (m.view.readAt (Elt F) (Rect.unit (s := S32x128) (k0_off12 t bv) S1x16.size h1).toLoadRect A) shapeCasts_S1x16_S16) (lanes g 1)) shapeCasts_S16_S1x16)
    (e2 : w2 = shapeCast S1x16 (maximumf (shapeCast S16 (m.view.readAt (Elt F) (Rect.unit (s := S32x128) (k0_off13 t bv) S1x16.size h2).toLoadRect A) shapeCasts_S1x16_S16) (lanes g 2)) shapeCasts_S16_S1x16)
    (e3 : w3 = shapeCast S1x16 (maximumf (shapeCast S16 (m.view.readAt (Elt F) (Rect.unit (s := S32x128) (k0_off14 t bv) S1x16.size h3).toLoadRect A) shapeCasts_S1x16_S16) (lanes g 3)) shapeCasts_S16_S1x16)
    (e4 : w4 = shapeCast S1x16 (maximumf (shapeCast S16 (m.view.readAt (Elt F) (Rect.unit (s := S32x128) (k0_off15 t bv) S1x16.size h4).toLoadRect A) shapeCasts_S1x16_S16) (lanes g 4)) shapeCasts_S16_S1x16)
    (e5 : w5 = shapeCast S1x16 (maximumf (shapeCast S16 (m.view.readAt (Elt F) (Rect.unit (s := S32x128) (k0_off16 t bv) S1x16.size h5).toLoadRect A) shapeCasts_S1x16_S16) (lanes g 5)) shapeCasts_S16_S1x16)
    (e6 : w6 = shapeCast S1x16 (maximumf (shapeCast S16 (m.view.readAt (Elt F) (Rect.unit (s := S32x128) (k0_off17 t bv) S1x16.size h6).toLoadRect A) shapeCasts_S1x16_S16) (lanes g 6)) shapeCasts_S16_S1x16)
    (e7 : w7 = shapeCast S1x16 (maximumf (shapeCast S16 (m.view.readAt (Elt F) (Rect.unit (s := S32x128) (k0_off18 t bv) S1x16.size h7).toLoadRect A) shapeCasts_S1x16_S16) (lanes g 7)) shapeCasts_S16_S1x16) (r : Fin 32) (j : Fin 128) :
    m.view.read (Elt F) (m.view.writes (Elt F) A
         [⟨Rect.unit (s := S32x128) (k0_off18 t bv) S1x16.size h7, w7⟩,
          ⟨Rect.unit (s := S32x128) (k0_off17 t bv) S1x16.size h6, w6⟩,
          ⟨Rect.unit (s := S32x128) (k0_off16 t bv) S1x16.size h5, w5⟩,
          ⟨Rect.unit (s := S32x128) (k0_off15 t bv) S1x16.size h4, w4⟩,
          ⟨Rect.unit (s := S32x128) (k0_off14 t bv) S1x16.size h3, w3⟩,
          ⟨Rect.unit (s := S32x128) (k0_off13 t bv) S1x16.size h2, w2⟩,
          ⟨Rect.unit (s := S32x128) (k0_off12 t bv) S1x16.size h1, w1⟩,
          ⟨Rect.unit (s := S32x128) (k0_off11 t bv) S1x16.size h0, w0⟩])
        (ix2 r j) = if r = ρ then FloatOps.maximumf (m.view.read (Elt F) A (ix2 r j)) (g j) else m.view.read (Elt F) A (ix2 r j) := by
  subst hb
  refine (phase_writes b rfl ρ hρ (fun j => FloatOps.maximumf (m.view.read (Elt F) A (ix2 ρ j)) (g j))
    (e0.trans (congrArg (fun v => shapeCast S1x16 (maximumf v (lanes g 0)) shapeCasts_S16_S1x16) (load_lanes (m := 32) (d := d) (L := L) rfl h0 ρ 0 ((off11_eq t b).trans (by rw [hρ]; rfl)))))
    (e1.trans (congrArg (fun v => shapeCast S1x16 (maximumf v (lanes g 1)) shapeCasts_S16_S1x16) (load_lanes (m := 32) (d := d) (L := L) rfl h1 ρ 1 ((off12_eq t b).trans (by rw [hρ]; rfl)))))
    (e2.trans (congrArg (fun v => shapeCast S1x16 (maximumf v (lanes g 2)) shapeCasts_S16_S1x16) (load_lanes (m := 32) (d := d) (L := L) rfl h2 ρ 2 ((off13_eq t b).trans (by rw [hρ]; rfl)))))
    (e3.trans (congrArg (fun v => shapeCast S1x16 (maximumf v (lanes g 3)) shapeCasts_S16_S1x16) (load_lanes (m := 32) (d := d) (L := L) rfl h3 ρ 3 ((off14_eq t b).trans (by rw [hρ]; rfl)))))
    (e4.trans (congrArg (fun v => shapeCast S1x16 (maximumf v (lanes g 4)) shapeCasts_S16_S1x16) (load_lanes (m := 32) (d := d) (L := L) rfl h4 ρ 4 ((off15_eq t b).trans (by rw [hρ]; rfl)))))
    (e5.trans (congrArg (fun v => shapeCast S1x16 (maximumf v (lanes g 5)) shapeCasts_S16_S1x16) (load_lanes (m := 32) (d := d) (L := L) rfl h5 ρ 5 ((off16_eq t b).trans (by rw [hρ]; rfl)))))
    (e6.trans (congrArg (fun v => shapeCast S1x16 (maximumf v (lanes g 6)) shapeCasts_S16_S1x16) (load_lanes (m := 32) (d := d) (L := L) rfl h6 ρ 6 ((off17_eq t b).trans (by rw [hρ]; rfl)))))
    (e7.trans (congrArg (fun v => shapeCast S1x16 (maximumf v (lanes g 7)) shapeCasts_S16_S1x16) (load_lanes (m := 32) (d := d) (L := L) rfl h7 ρ 7 ((off18_eq t b).trans (by rw [hρ]; rfl))))) r j).trans ?_
  by_cases hr : r = ρ
  · subst hr; rfl
  · rw [if_neg hr, if_neg hr]

end Cert.Proof.Tile
-- ==== Proof.Trip.lean ====
/-
  One trip of a tile's loop: four phases, each waiting for a landing buffer, taking the column maxima of its hundred rows,
  putting them into the accumulator's row, and issuing the buffer's next gather when there is one.
-/
module

public import proofs.«01_k».proof.Proof.Slot
public import proofs.«01_k».proof.Proof.Rows

@[expose] public section

set_option maxRecDepth 16384

noncomputable section

namespace Cert.Proof.Tile

open Cert.KernelIdeal Cert.KernelIdeal.Gen Cert.Proof.Launch Cert.Proof.Pool Cert.Proof.Offsets

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

section
variable (i : grid0.Coords) (arg2 : Memref sig .scVector .hbm S2048x100 .i32) (harg2 : arg2.IsWhole) (arg3 : Memref sig .scVector .hbm S1000000x128 .f32) (harg3 : arg3.IsWhole) (arg4 : Memref sig .scVector .hbm S1024x128 .f32) (harg4 : arg4.IsWhole) (arg5 : Memref sig .scVector .vmem S64x100 .i32) (harg5 : arg5.IsWhole) (arg6 : Memref sig .scVector .vmem S100x128 .f32) (harg6 : arg6.IsWhole) (arg7 : Memref sig .scVector .vmem S100x128 .f32) (harg7 : arg7.IsWhole) (arg8 : Memref sig .scVector .vmem S100x128 .f32) (harg8 : arg8.IsWhole) (arg9 : Memref sig .scVector .vmem S100x128 .f32) (harg9 : arg9.IsWhole) (arg10 : Memref sig .scVector .vmem S32x128 .f32) (harg10 : arg10.IsWhole)
  (arg11 arg12 arg13 arg14 v17_r0 v17_r1 : DmaSems sig S_)

variable (d : Dev nD) (q0 q1 q2 q3 o0 o1 o2 o3 : PosShare TreeShare) (fe : Buf (Elt F) (arg3.view.loc (tile d i))) (fi : Buf (Elt F) (arg5.view.loc (tile d i)))
  (O : CellTallies nD τ sig (HIx 1)) (W : Waits sig (HIx 1))

/-- Before trip `t`: the four buffers, the accumulator with `4t` lists taken in, and what the tile owes. -/
def TripInv (t : ℕ) : sProp (𝕄 F) :=
  iprop(Slot d i arg3 arg5 arg6 arg11.sem q0 o0 fe fi 0 t ∗ Slot d i arg3 arg5 arg7 arg12.sem q1 o1 fe fi 1 t ∗ Slot d i arg3 arg5 arg8 arg13.sem q2 o2 fe fi 2 t ∗ Slot d i arg3 arg5 arg9 arg14.sem q3 o3 fe fi 3 t
        ∗ (∃ A : Buf (Elt F) (arg10.view.loc (tile d i)), ⌜AccOK (fun ρ => part (arg3.view.read (Elt F) fe) (words d i arg5 fi ρ)) (4 * t) (arg10.view.read (Elt F) A)⌝ ∗ arg10.view.loc (tile d i) ↦{fullShare} A)
        ∗ Transfers.MayWaits (tile d i) (default : HIx 1) O ∗ ∃ W', ⌜∀ p ∈ W', p ∈ W ∨ p.2 = none⌝ ∗ owes (tile d i) O W')

set_option maxHeartbeats 4000000 in
theorem trip_body
    (hcr0 : ∀ s' : Shape, sig.dmaCredit .scVector (Kind.scVector.table .vmem) arg6.view.buf s' .f32 = s'.numel * EltTy.f32.bits)
    (hcr1 : ∀ s' : Shape, sig.dmaCredit .scVector (Kind.scVector.table .vmem) arg7.view.buf s' .f32 = s'.numel * EltTy.f32.bits)
    (hcr2 : ∀ s' : Shape, sig.dmaCredit .scVector (Kind.scVector.table .vmem) arg8.view.buf s' .f32 = s'.numel * EltTy.f32.bits)
    (hcr3 : ∀ s' : Shape, sig.dmaCredit .scVector (Kind.scVector.table .vmem) arg9.view.buf s' .f32 = s'.numel * EltTy.f32.bits)
    (hin : ∀ x, (arg5.view.read (Elt F) fi x).toNat < 1000000) (t : Fin k0_t1_loop.trips) (Q : Unit → sProp (𝕄 F)) :
    iprop(TripInv i arg3 arg5 arg6 arg7 arg8 arg9 arg10 arg11 arg12 arg13 arg14 d q0 q1 q2 q3 o0 o1 o2 o3 fe fi O W t.val
        ∗ (TripInv i arg3 arg5 arg6 arg7 arg8 arg9 arg10 arg11 arg12 arg13 arg14 d q0 q1 q2 q3 o0 o1 o2 o3 fe fi O W (t.val + 1) -∗ Q ⟨⟩))
      ⊢ wp frame (wpE (defs₀ (F := F)) 𝒱₀ (tile d i) none) Set.univ
          (k0_t1_body (F := F) i arg2 harg2 arg3 harg3 arg4 harg4 arg5 harg5 arg6 harg6 arg7 harg7 arg8 harg8 arg9 harg9 arg10 harg10 arg11 arg12 arg13 arg14 v17_r0 v17_r1 t ⟨⟩) Q := by
  have ht : t.val < 16 := Nat.lt_of_lt_of_eq t.isLt trips1
  unfold TripInv
  rw [Slot_lt _ _ _ _ _ _ _ _ _ _ ht, Slot_lt _ _ _ _ _ _ _ _ _ _ ht, Slot_lt _ _ _ _ _ _ _ _ _ _ ht, Slot_lt _ _ _ _ _ _ _ _ _ _ ht]
  iintro ⟨⟨H0, H1, H2, H3, ⟨%A, %hA, HA⟩, #Hmw, %W', %hW', HO⟩, HQ⟩
  unfold k0_t1_body
  sl_exec
  iapply (land d i arg3 arg5 arg6 arg11.sem q0 o0 fe fi (4 * t.val + 0) O W')
  isplitl [H0]; iexact H0
  isplitl [HO]; iexact HO
  isplitl []; iexact Hmw
  iintro ⟨HL, He, Hl, Hs, HO⟩
  unfold Landed
  icases HL with ⟨%G0, %hG0, HL⟩
  sl_exec
  iapply (phase_for i arg2 harg2 arg3 harg3 arg4 harg4 arg5 harg5 arg6 harg6 arg7 harg7 arg8 harg8 arg9 harg9 arg10 harg10 arg11 arg12 arg13 arg14 v17_r0 v17_r1 d t hG0 _ _ (congrArg (fun x => Scf.Loop.for k0_t2_loop k0_t2_ok x _) (first_octet i arg6 hG0)))
  isplitl [HL]; iexact HL
  iintro HL
  ihave HI : Idle d i arg3 arg5 arg6 arg11.sem q0 o0 fe fi $$ [HL He Hl Hs]
  · unfold Idle
    iframe He Hl Hs
    iexists _
    iexact HL
  sl_exec
  ihave HA : iprop(∃ A1 : Buf (Elt F) (arg10.view.loc (tile d i)), ⌜AccOK (fun ρ => part (arg3.view.read (Elt F) fe) (words d i arg5 fi ρ)) (4 * t.val + 0 + 1) (arg10.view.read (Elt F) A1)⌝
      ∗ arg10.view.loc (tile d i) ↦{fullShare} A1) $$ [HA]
  · iexists _
    isplitr
    rotate_left
    · iexact HA
    · ipureintro
      exact AccOK.even hA ⟨2 * t.val + 0, by omega⟩ (by show 4 * t.val + 0 = 2 * (2 * t.val + 0); omega)
        (phase_writes (A := A) (t := t) (0 : Fin 4) rfl ⟨2 * t.val + 0, by omega⟩ rfl _ rfl rfl rfl rfl rfl rfl rfl rfl)
  icases HA with ⟨%A1, %hA1, HA⟩
  iapply (fire_if d i arg3 arg5 arg6 arg11.sem q0 o0 fe fi hcr0 hin (b := 0) (by decide) ht (cond1_iff t) _ (k0_off19_eq t))
  isplitl [HI]; iexact HI
  iintro H0
  sl_exec
  iapply (land d i arg3 arg5 arg7 arg12.sem q1 o1 fe fi (4 * t.val + 1) O (insert (SemLoc.dma arg11.sem, (default : HIx 1)) W'))
  isplitl [H1]; iexact H1
  isplitl [HO]; iexact HO
  isplitl []; iexact Hmw
  iintro ⟨HL, He, Hl, Hs, HO⟩
  unfold Landed
  icases HL with ⟨%G1, %hG1, HL⟩
  sl_exec
  iapply (phase_for i arg2 harg2 arg3 harg3 arg4 harg4 arg5 harg5 arg7 harg7 arg7 harg7 arg8 harg8 arg9 harg9 arg10 harg10 arg11 arg12 arg13 arg14 v17_r0 v17_r1 d t hG1 _ _ (congrArg (fun x => Scf.Loop.for k0_t2_loop k0_t2_ok x _) (first_octet i arg7 hG1)))
  isplitl [HL]; iexact HL
  iintro HL
  ihave HI : Idle d i arg3 arg5 arg7 arg12.sem q1 o1 fe fi $$ [HL He Hl Hs]
  · unfold Idle
    iframe He Hl Hs
    iexists _
    iexact HL
  sl_exec
  ihave HA : iprop(∃ A2 : Buf (Elt F) (arg10.view.loc (tile d i)), ⌜AccOK (fun ρ => part (arg3.view.read (Elt F) fe) (words d i arg5 fi ρ)) (4 * t.val + 1 + 1) (arg10.view.read (Elt F) A2)⌝
      ∗ arg10.view.loc (tile d i) ↦{fullShare} A2) $$ [HA]
  · iexists _
    isplitr
    rotate_left
    · iexact HA
    · ipureintro
      exact AccOK.odd hA1 ⟨2 * t.val + 0, by omega⟩ (by show 4 * t.val + 1 = 2 * (2 * t.val + 0) + 1; omega)
        (phase_max (d := d) (L := i) (A := A1) (t := t) (1 : Fin 4) rfl ⟨2 * t.val + 0, by omega⟩ rfl _ rfl rfl rfl rfl rfl rfl rfl rfl)
  icases HA with ⟨%A2, %hA2, HA⟩
  iapply (fire_if d i arg3 arg5 arg7 arg12.sem q1 o1 fe fi hcr1 hin (b := 1) (by decide) ht (cond2_iff t) _ (k0_off28_eq t))
  isplitl [HI]; iexact HI
  iintro H1
  sl_exec
  iapply (land d i arg3 arg5 arg8 arg13.sem q2 o2 fe fi (4 * t.val + 2) O (insert (SemLoc.dma arg12.sem, (default : HIx 1)) (insert (SemLoc.dma arg11.sem, (default : HIx 1)) W')))
  isplitl [H2]; iexact H2
  isplitl [HO]; iexact HO
  isplitl []; iexact Hmw
  iintro ⟨HL, He, Hl, Hs, HO⟩
  unfold Landed
  icases HL with ⟨%G2, %hG2, HL⟩
  sl_exec
  iapply (phase_for i arg2 harg2 arg3 harg3 arg4 harg4 arg5 harg5 arg8 harg8 arg7 harg7 arg8 harg8 arg9 harg9 arg10 harg10 arg11 arg12 arg13 arg14 v17_r0 v17_r1 d t hG2 _ _ (congrArg (fun x => Scf.Loop.for k0_t2_loop k0_t2_ok x _) (first_octet i arg8 hG2)))
  isplitl [HL]; iexact HL
  iintro HL
  ihave HI : Idle d i arg3 arg5 arg8 arg13.sem q2 o2 fe fi $$ [HL He Hl Hs]
  · unfold Idle
    iframe He Hl Hs
    iexists _
    iexact HL
  sl_exec
  ihave HA : iprop(∃ A3 : Buf (Elt F) (arg10.view.loc (tile d i)), ⌜AccOK (fun ρ => part (arg3.view.read (Elt F) fe) (words d i arg5 fi ρ)) (4 * t.val + 2 + 1) (arg10.view.read (Elt F) A3)⌝
      ∗ arg10.view.loc (tile d i) ↦{fullShare} A3) $$ [HA]
  · iexists _
    isplitr
    rotate_left
    · iexact HA
    · ipureintro
      exact AccOK.even hA2 ⟨2 * t.val + 1, by omega⟩ (by show 4 * t.val + 2 = 2 * (2 * t.val + 1); omega)
        (phase_writes (A := A2) (t := t) (2 : Fin 4) rfl ⟨2 * t.val + 1, by omega⟩ rfl _ rfl rfl rfl rfl rfl rfl rfl rfl)
  icases HA with ⟨%A3, %hA3, HA⟩
  iapply (fire_if d i arg3 arg5 arg8 arg13.sem q2 o2 fe fi hcr2 hin (b := 2) (by decide) ht (cond3_iff t) _ (k0_off37_eq t))
  isplitl [HI]; iexact HI
  iintro H2
  sl_exec
  iapply (land d i arg3 arg5 arg9 arg14.sem q3 o3 fe fi (4 * t.val + 3) O (insert (SemLoc.dma arg13.sem, (default : HIx 1)) (insert (SemLoc.dma arg12.sem, (default : HIx 1)) (insert (SemLoc.dma arg11.sem, (default : HIx 1)) W'))))
  isplitl [H3]; iexact H3
  isplitl [HO]; iexact HO
  isplitl []; iexact Hmw
  iintro ⟨HL, He, Hl, Hs, HO⟩
  unfold Landed
  icases HL with ⟨%G3, %hG3, HL⟩
  sl_exec
  iapply (phase_for i arg2 harg2 arg3 harg3 arg4 harg4 arg5 harg5 arg9 harg9 arg7 harg7 arg8 harg8 arg9 harg9 arg10 harg10 arg11 arg12 arg13 arg14 v17_r0 v17_r1 d t hG3 _ _ (congrArg (fun x => Scf.Loop.for k0_t2_loop k0_t2_ok x _) (first_octet i arg9 hG3)))
  isplitl [HL]; iexact HL
  iintro HL
  ihave HI : Idle d i arg3 arg5 arg9 arg14.sem q3 o3 fe fi $$ [HL He Hl Hs]
  · unfold Idle
    iframe He Hl Hs
    iexists _
    iexact HL
  sl_exec
  ihave HA : iprop(∃ A4 : Buf (Elt F) (arg10.view.loc (tile d i)), ⌜AccOK (fun ρ => part (arg3.view.read (Elt F) fe) (words d i arg5 fi ρ)) (4 * t.val + 3 + 1) (arg10.view.read (Elt F) A4)⌝
      ∗ arg10.view.loc (tile d i) ↦{fullShare} A4) $$ [HA]
  · iexists _
    isplitr
    rotate_left
    · iexact HA
    · ipureintro
      exact AccOK.odd hA3 ⟨2 * t.val + 1, by omega⟩ (by show 4 * t.val + 3 = 2 * (2 * t.val + 1) + 1; omega)
        (phase_max (d := d) (L := i) (A := A3) (t := t) (3 : Fin 4) rfl ⟨2 * t.val + 1, by omega⟩ rfl _ rfl rfl rfl rfl rfl rfl rfl rfl)
  icases HA with ⟨%A4, %hA4, HA⟩
  iapply (fire_if d i arg3 arg5 arg9 arg14.sem q3 o3 fe fi hcr3 hin (b := 3) (by decide) ht (cond4_iff t) _ (k0_off46_eq t))
  isplitl [HI]; iexact HI
  iintro H3
  sl_exec
  sl_step
  iapply HQ
  iframe H0 H1 H2 H3
  isplitl [HA]
  · iexists A4
    isplitr
    · ipureintro; exact hA4
    · iexact HA
  isplitl []; iexact Hmw
  iexists _
  isplitr
  rotate_left
  · iexact HO
  · ipureintro
    intro p hp
    simp only [Finset.mem_insert, Set.mem_insert_iff] at hp
    rcases hp with rfl | rfl | rfl | rfl | hp
    · exact Or.inr rfl
    · exact Or.inr rfl
    · exact Or.inr rfl
    · exact Or.inr rfl
    · exact hW' p hp
end
end Cert.Proof.Tile
-- ==== Proof.Tile.lean ====
/-
  A tile's whole task: fetch its lists, keep four gathers under way through the sixteen trips, write its pooled rows out.
-/
module

public import proofs.«01_k».proof.Proof.Blocks
public import proofs.«01_k».proof.Proof.Trip

@[expose] public section

set_option maxRecDepth 16384

noncomputable section

namespace Cert.Proof.Tile

open Cert.KernelIdeal Cert.KernelIdeal.Gen Cert.Proof.Launch Cert.Proof.Pool Cert.Proof.Offsets

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The tile's own buffers and semaphores -/

omit [FloatOps F] in
theorem bigSep_take {I : Type} [DecidableEq I] (Φ : I → sProp (𝕄 F)) : ∀ (l : List I) (s : Finset I), l.Nodup → (∀ x ∈ l, x ∈ s)
    → bigSep s Φ = l.foldr (fun a R => iprop(Φ a ∗ R)) (bigSep (s \ l.toFinset) Φ)
  | [], s, _, _ => by simp
  | a :: l, s, hn, hs => by
    have hn' := List.nodup_cons.mp hn
    rw [SparseCore.bigSep_erase' (hs a (by simp)), bigSep_take Φ l (s.erase a) hn'.2 fun x hx => Finset.mem_erase.mpr
      ⟨fun e => hn'.1 (e ▸ hx), hs x (List.mem_cons_of_mem _ hx)⟩, List.foldr_cons]
    congr 3
    ext x
    simp only [Finset.mem_sdiff, Finset.mem_erase, List.mem_toFinset, List.mem_cons]
    tauto

section Tile

variable (d : Dev nD) (L : grid0.Coords)

def ownSemList : List (SemLoc sig) :=
  [.dma cc0_scratch6.sem, .dma cc0_scratch7.sem, .dma cc0_scratch8.sem, .dma cc0_scratch9.sem, .dma cc0_scoped0.sem, .dma cc0_scoped1.sem]
def ownBufList : List (Ref sig .scVector) := [cc0_scratch0, cc0_scratch1, cc0_scratch2, cc0_scratch3, cc0_scratch4, cc0_scratch5]

theorem nodup_bufs : ownBufList.Nodup := by decide

def semRest : sProp (𝕄 F) := bigSep (ownCells (tile d L) \ (ownSemList.map fun s => (tile d L, s)).toFinset) fun g => semVal g 0
def bufRest : sProp (𝕄 F) := bigSep (ownRefs (τ := τ) (.scVector (cV L) (jV L)) \ (ownBufList.map fun b => (Proc.scVector (cV L) (jV L)).devRef b).toFinset)
  fun b => iprop(∃ f, ((d, b) : Loc nD τ sig) ↦{fullShare} f)

omit [FloatOps F] in
theorem ownSems0_V : (ownSems0 (tile d L) : sProp (𝕄 F))
    = iprop(semVal (tile d L, .dma cc0_scratch6.sem) 0 ∗ semVal (tile d L, .dma cc0_scratch7.sem) 0 ∗ semVal (tile d L, .dma cc0_scratch8.sem) 0
        ∗ semVal (tile d L, .dma cc0_scratch9.sem) 0 ∗ semVal (tile d L, .dma cc0_scoped0.sem) 0 ∗ semVal (tile d L, .dma cc0_scoped1.sem) 0 ∗ semRest d L) := by
  unfold SparseCore.Cfg.ownSems0
  refine bigSep_take _ (ownSemList.map fun s => (tile d L, s)) _ ?_ ?_
  · exact List.Nodup.map (fun a b h => (Prod.mk.inj h).2) (by decide)
  · intro x hx
    obtain ⟨s, hs, rfl⟩ := List.mem_map.mp hx
    exact mem_ownCells.mpr ⟨rfl, (by decide : ∀ s ∈ ownSemList, s.isScoped .scVector = true) s hs⟩

omit [FloatOps F] in
theorem ownBufs_V : (ownBufs (tile d L) : sProp (𝕄 F))
    = iprop((∃ f, (tile d L).loc cc0_scratch0 ↦{fullShare} f) ∗ (∃ f, (tile d L).loc cc0_scratch1 ↦{fullShare} f) ∗ (∃ f, (tile d L).loc cc0_scratch2 ↦{fullShare} f)
        ∗ (∃ f, (tile d L).loc cc0_scratch3 ↦{fullShare} f) ∗ (∃ f, (tile d L).loc cc0_scratch4 ↦{fullShare} f) ∗ (∃ f, (tile d L).loc cc0_scratch5 ↦{fullShare} f)
        ∗ bufRest d L) := by
  unfold SparseCore.Cfg.ownBufs
  refine bigSep_take _ (ownBufList.map fun b => (Proc.scVector (cV L) (jV L)).devRef b) _ ?_ ?_
  · exact List.Nodup.map (Proc.devRef_injective _) nodup_bufs
  · intro x hx
    obtain ⟨s, hs, rfl⟩ := List.mem_map.mp hx
    refine SparseCore.Cfg.mem_ownRefs_of_owner (p := Proc.scVector (cV L) (jV L)) ?_
    simp only [ownBufList, List.mem_cons, List.not_mem_nil] at hs
    rcases hs with rfl | rfl | rfl | rfl | rfl | rfl | h
    · rfl
    · rfl
    · rfl
    · rfl
    · rfl
    · rfl
    · exact h.elim

/-! ## The buffers as the tile addresses them -/

local notation "lV" => (Memref.whole Cert.KernelIdeal.main_v0_scv : Memref Cert.KernelIdeal.sig Kind.scVector Space.hbm Cert.KernelIdeal.S2048x100 EltTy.i32)
local notation "eV" => (Memref.whole Cert.KernelIdeal.main_arg1_scv : Memref Cert.KernelIdeal.sig Kind.scVector Space.hbm Cert.KernelIdeal.S1000000x128 EltTy.f32)
local notation "pV" => (Memref.whole Cert.KernelIdeal.main_v16_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S64x100 EltTy.i32)
local notation "b0V" => (Memref.whole Cert.KernelIdeal.cc0_scratch1 : Memref Cert.KernelIdeal.sig Kind.scVector Space.vmem Cert.KernelIdeal.S100x128 EltTy.f32)
local notation "b1V" => (Memref.whole Cert.KernelIdeal.cc0_scratch2 : Memref Cert.KernelIdeal.sig Kind.scVector Space.vmem Cert.KernelIdeal.S100x128 EltTy.f32)
local notation "b2V" => (Memref.whole Cert.KernelIdeal.cc0_scratch3 : Memref Cert.KernelIdeal.sig Kind.scVector Space.vmem Cert.KernelIdeal.S100x128 EltTy.f32)
local notation "b3V" => (Memref.whole Cert.KernelIdeal.cc0_scratch4 : Memref Cert.KernelIdeal.sig Kind.scVector Space.vmem Cert.KernelIdeal.S100x128 EltTy.f32)
local notation "aV" => (Memref.whole Cert.KernelIdeal.cc0_scratch5 : Memref Cert.KernelIdeal.sig Kind.scVector Space.vmem Cert.KernelIdeal.S32x128 EltTy.f32)

/-- A landing buffer and its semaphore, put by. -/
def Bay (dst : Memref sig .scVector .vmem S100x128 .f32) (sem : DmaSem sig) : sProp (𝕄 F) :=
  iprop((∃ f : Buf (Elt F) (dst.view.loc (tile d L)), dst.view.loc (tile d L) ↦{fullShare} f) ∗ semVal (tile d L, SemLoc.dma sem) 0)

theorem pts_lists (f : Buf (Elt F) (lLoc d)) :
    ((lists L).view.loc (tile d L) ↦[(lists L).view.set]{fullShare} f : sProp (𝕄 F)) = lLoc d ↦[(wBlk (nL L)).set]{fullShare} f := by
  rw [set_lists]
theorem pts_rows (f : Buf (Elt F) (pLoc d)) :
    ((rows L).view.loc (tile d L) ↦[(rows L).view.set]{fullShare} f : sProp (𝕄 F)) = pLoc d ↦[(oBlk (nL L)).set]{fullShare} f := by
  rw [set_rows]

/-- A quarter of tile `n`'s share of the table, and a quarter of the whole. -/
abbrev eq4 (n : Fin 32) (b : Fin 4) : PosShare TreeShare := pieceOf (eq n) 4 (by decide) b
abbrev fq4 (b : Fin 4) : PosShare TreeShare := pieceOf fullShare 4 (by decide) b

/-- Four shares of a whole buffer. -/
theorem pts_four {ℓ : Loc nD τ sig} (f : Buf (Elt F) ℓ) (q : PosShare TreeShare) :
    (ℓ ↦{q} f : sProp (𝕄 F)) = iprop((ℓ ↦{pieceOf q 4 (by decide) 0} f) ∗ (ℓ ↦{pieceOf q 4 (by decide) 1} f) ∗ (ℓ ↦{pieceOf q 4 (by decide) 2} f) ∗ (ℓ ↦{pieceOf q 4 (by decide) 3} f)) := by
  rw [pointsTo_piecesOf Finset.univ f (o := 4) (by decide) q, show (Finset.univ : Finset (Fin 4)) = {0, 1, 2, 3} by decide,
    bigSep_insert (by decide), bigSep_insert (by decide), bigSep_insert (by decide), bigSep_singleton]
  rfl

section
variable (tab : Memref sig .scVector .hbm S1000000x128 .f32) (lists : Memref sig .scVector .vmem S64x100 .i32)
variable (dst : Memref sig .scVector .vmem S100x128 .f32) (sem : DmaSem sig)
variable (q qo : PosShare TreeShare) (fe : Buf (Elt F) (tab.view.loc (tile d L))) (fi : Buf (Elt F) (lists.view.loc (tile d L)))
theorem Slot_zero (b : ℕ) : InFlight d L tab lists dst sem q qo fe fi b = Slot d L tab lists dst sem q qo fe fi b 0 := by
  rw [Slot_lt _ _ _ _ _ _ _ _ _ _ (by decide : 0 < 16), Nat.mul_zero, Nat.zero_add]
theorem Slot_sixteen (b : ℕ) : Slot d L tab lists dst sem q qo fe fi b 16 = Idle d L tab lists dst sem q qo fe fi :=
  Slot_end _ _ _ _ _ _ _ _ _ _ (by decide)
end

/-- What a view reads is all that its elements hold. -/
theorem pts_of_read {sp : Space} {s : Shape} {e : EltTy} (v : Memref sig .scVector sp s e) (f g : Buf (Elt F) (v.view.loc (tile d L)))
    (h : v.view.read (Elt F) f = v.view.read (Elt F) g) :
    (v.view.loc (tile d L) ↦[v.view.set]{fullShare} f : sProp (𝕄 F)) = v.view.loc (tile d L) ↦[v.view.set]{fullShare} g :=
  pointsTo_congr fun i hi => by
    obtain ⟨x, -, rfl⟩ := Finset.mem_map.mp hi
    have hx := congrFun h x
    rw [View.read_apply, View.read_apply] at hx
    exact (cast_inj _).mp hx

theorem rows_written (fw : Buf (Elt F) (lLoc d)) (fe : Buf (Elt F) (eLoc d)) (fo : Buf (Elt F) (pLoc d)) (w : S32x128.Idx → Elt F .f32)
    (hw : w = (rows L).view.read (Elt F) (pooledRows fe fw : Buf (Elt F) (pLoc d))) :
    ((rows L).view.loc (tile d L) ↦[(rows L).view.set]{fullShare} (rows L).view.writes (Elt F) fo [⟨Rect.whole S32x128, w⟩] : sProp (𝕄 F))
      ⊢ pLoc d ↦[(oBlk (nL L)).set]{fullShare} (pooledRows fe fw : Buf (Elt F) (pLoc d)) :=
  Entails.of_eq ((pts_of_read d L (rows L) _ _ ((View.read_writes_whole _ _ _).trans hw)).trans (pts_rows d L _))

theorem words_eq (fw : Buf (Elt F) (lLoc d)) (fi : Buf (Elt F) ((sV).view.loc (tile d L)))
    (hfi : (sV).view.read (Elt F) fi = (lists L).view.read (Elt F) fw) (ρ : ℕ) (hρ : ρ < 64) :
    words d L sV fi ρ = fun k => fw (ix2 (Fin.ofNat 2048 (128 * (L 1).val + 64 * (L 0).val + ρ)) k) := by
  funext k
  unfold words
  rw [hfi]
  show fw ((Rect.unit (s := S2048x100) (k0_off1 L) S64x100.size (k0_off1_inb L)).idx (ix2 (Fin.ofNat 64 ρ) k)) = _
  have h0 : (L 0).val < 2 := (L 0).isLt
  have h1 : (L 1).val < 16 := (L 1).isLt
  congr 1
  funext a
  match a with
  | ⟨0, _⟩ =>
    refine Fin.ext ?_
    show k0_off1 L 0 + 1 * (ρ % 64) = (128 * (L 1).val + 64 * (L 0).val + ρ) % 2048
    rw [k0_off1_eq]
    show 128 * (L 1).val + 64 * (L 0).val + 1 * (ρ % 64) = _
    omega
  | ⟨1, _⟩ =>
    refine Fin.ext ?_
    show k0_off1 L 1 + 1 * k.val = k.val
    rw [k0_off1_eq]
    show 0 + 1 * k.val = k.val
    omega

/-- What the accumulator holds at the end is the pooled rows it goes to. -/
theorem rows_pooled (fw : Buf (Elt F) (lLoc d)) (fe : Buf (Elt F) (eLoc d)) (fi : Buf (Elt F) ((sV).view.loc (tile d L)))
    (hfi : (sV).view.read (Elt F) fi = (lists L).view.read (Elt F) fw) (A : S32x128.Idx → Elt F .f32)
    (hA : AccOK (fun ρ => part ((eV).view.read (Elt F) fe) (words d L sV fi ρ)) (4 * 16) A) :
    A = (rows L).view.read (Elt F) (pooledRows fe fw : Buf (Elt F) (pLoc d)) := by
  funext x
  obtain ⟨r, j, rfl⟩ : ∃ r j, x = ix2 r j := ⟨x 0, x 1, by funext a; match a with | ⟨0, _⟩ => rfl | ⟨1, _⟩ => rfl⟩
  have h0 : (L 0).val < 2 := (L 0).isLt
  have h1 : (L 1).val < 16 := (L 1).isLt
  have hr := r.isLt
  have hv := (hA r j).1 (by omega)
  simp only at hv
  rw [words_eq d L fw fi hfi _ (by omega), words_eq d L fw fi hfi _ (by omega)] at hv
  refine hv.trans ?_
  have e0 : (((Rect.unit (s := S1024x128) (k0_off47 L) S32x128.size (k0_off47_inb L)).idx (ix2 r j)) 0).val = 64 * (L 1).val + 32 * (L 0).val + r.val := by
    show k0_off47 L 0 + 1 * r.val = _
    rw [k0_off47_eq]
    show 64 * (L 1).val + 32 * (L 0).val + 1 * r.val = _
    omega
  have e1 : ((Rect.unit (s := S1024x128) (k0_off47 L) S32x128.size (k0_off47_inb L)).idx (ix2 r j)) 1 = j := by
    refine Fin.ext ?_
    show k0_off47 L 1 + 1 * j.val = _
    rw [k0_off47_eq]
    show 0 + 1 * j.val = _
    omega
  show _ = pooledRows fe fw ((Rect.unit (s := S1024x128) (k0_off47 L) S32x128.size (k0_off47_inb L)).idx (ix2 r j))
  unfold pooledRows pooled
  rw [e0, e1, show 2 * (64 * (L 1).val + 32 * (L 0).val + r.val) = 128 * (L 1).val + 64 * (L 0).val + 2 * r.val by omega, Nat.add_assoc (128 * (L 1).val + 64 * (L 0).val)]
  rfl

set_option maxHeartbeats 1000000 in
/-- The task on the tile of grid point `L`. -/
theorem tile_body (hF : (K (F := F)).Facts) (fw : Buf (Elt F) (lLoc d)) (fe : Buf (Elt F) (eLoc d)) (fo : Buf (Elt F) (pLoc d))
    (hpre : ∀ j, (fw j).toNat < 1000000) (O : CellTallies nD τ sig (HIx 1)) (W : Waits sig (HIx 1)) (hO : ∀ g, O g none = 0) :
    iprop(levAts (K (F := F)).L (K (F := F)).lev ∗ emp ∗ piecesAt d fw fe fo (nL L)
        ∗ scopedBufs (tile d L) ∗ scopedSems0 (tile d L) ∗ owes (tile d L) O W)
      ⊢ wp frame (wpE (defs₀ (F := F)) 𝒱₀ (tile d L) none) Set.univ
          (cc0__pool_body L lV (Memref.isWhole_whole _) eV (Memref.isWhole_whole _) pV (Memref.isWhole_whole _) sV (Memref.isWhole_whole _)
            b0V (Memref.isWhole_whole _) b1V (Memref.isWhole_whole _) b2V (Memref.isWhole_whole _) b3V (Memref.isWhole_whole _) aV (Memref.isWhole_whole _)
            cc0_scratch6 cc0_scratch7 cc0_scratch8 cc0_scratch9 cc0_scoped0 cc0_scoped1)
          fun _ => iprop(piecesAt d fw fe (pooledRows fe fw) (nL L) ∗ scopedBufs (tile d L) ∗ scopedSems0 (tile d L)
            ∗ ∃ W', ⌜∀ p ∈ W', p ∈ W ∨ p.2 = none⌝ ∗ owes (tile d L) O W') := by
  simp only [cc0__pool_body_eq_skeleton]; unfold cc0__pool_body_skel
  simp only [k0_part11_eq_skeleton]; unfold k0_part11_skel
  rw [(K (F := F)).scopedBufs_V hF d (cV L) (jV L), SparseCore.Cfg.scopedSems0_V (Val := Elt F) d (cV L) (jV L), ownSems0_V, ownBufs_V]
  unfold piecesAt
  iintro ⟨#Hlv, -, ⟨Hi, Hx, Ho⟩, ⟨⟨%fs, Hs⟩, H0, H1, H2, H3, ⟨%fa, Ha⟩, Hbufs⟩, ⟨S0, S1, S2, S3, HsemA, HsemB, Hsems⟩, HO⟩
  ihave #Hmw := (show levAts (K (F := F)).L (K (F := F)).lev ⊢ Transfers.MayWaits (tile d L) (default : HIx 1) O from
    (K (F := F)).mayWaits_none (thr := tile d L) hO) $$ Hlv
  ihave Hi' := (Entails.of_eq (pts_lists (F := F) d L _).symm) $$ Hi
  ihave Ho' := (Entails.of_eq (pts_rows (F := F) d L _).symm) $$ Ho
  ihave Hs' := (Entails.of_eq (show ((tile d L).loc cc0_scratch0 ↦{fullShare} fs : sProp (𝕄 F)) = (sV).view.loc (tile d L) ↦{fullShare} fs from rfl)) $$ Hs
  ihave Ha' := (Entails.of_eq (show ((tile d L).loc cc0_scratch5 ↦{fullShare} fa : sProp (𝕄 F)) = (aV).view.loc (tile d L) ↦{fullShare} fa from rfl)) $$ Ha
  ihave B0 : Bay d L b0V cc0_scratch6.sem $$ [H0 S0]
  · unfold Bay; iframe S0; iexact H0
  ihave B1 : Bay d L b1V cc0_scratch7.sem $$ [H1 S1]
  · unfold Bay; iframe S1; iexact H1
  ihave B2 : Bay d L b2V cc0_scratch8.sem $$ [H2 S2]
  · unfold Bay; iframe S2; iexact H2
  ihave B3 : Bay d L b3V cc0_scratch9.sem $$ [H3 S3]
  · unfold Bay; iframe S3; iexact H3
  sl_exec
  ihave Hfi : iprop(∃ fi : Buf (Elt F) ((sV).view.loc (tile d L)), ⌜(sV).view.read (Elt F) fi = (lists L).view.read (Elt F) fw⌝ ∗ (sV).view.loc (tile d L) ↦{fullShare} fi) $$ [Hs']
  · iexists _
    isplitr
    rotate_left
    · iexact Hs'
    · ipureintro
      exact View.read_write_univ _ _
  icases Hfi with ⟨%fi, %hread, Hs'⟩
  have hin : ∀ x, ((sV).view.read (Elt F) fi x).toNat < 1000000 := fun x => by rw [hread]; exact hpre _
  ihave Hx' := (Entails.of_eq (pts_four fe (eq (nL L)))) $$ Hx
  icases Hx' with ⟨X0, X1, X2, X3⟩
  ihave Hs'' := (Entails.of_eq (pts_four fi fullShare)) $$ Hs'
  icases Hs'' with ⟨I0, I1, I2, I3⟩
  unfold Bay
  icases B0 with ⟨B0, S0⟩
  icases B1 with ⟨B1, S1⟩
  icases B2 with ⟨B2, S2⟩
  icases B3 with ⟨B3, S3⟩
  ihave J0 : Idle d L eV sV b0V cc0_scratch6.sem (eq4 (nL L) 0) (fq4 0) fe fi $$ [B0 X0 I0 S0]
  · unfold Idle; iframe B0 S0; isplitl [X0]; iexact X0; iexact I0
  ihave J1 : Idle d L eV sV b1V cc0_scratch7.sem (eq4 (nL L) 1) (fq4 1) fe fi $$ [B1 X1 I1 S1]
  · unfold Idle; iframe B1 S1; isplitl [X1]; iexact X1; iexact I1
  ihave J2 : Idle d L eV sV b2V cc0_scratch8.sem (eq4 (nL L) 2) (fq4 2) fe fi $$ [B2 X2 I2 S2]
  · unfold Idle; iframe B2 S2; isplitl [X2]; iexact X2; iexact I2
  ihave J3 : Idle d L eV sV b3V cc0_scratch9.sem (eq4 (nL L) 3) (fq4 3) fe fi $$ [B3 X3 I3 S3]
  · unfold Idle; iframe B3 S3; isplitl [X3]; iexact X3; iexact I3
  irw [wp_bind]
  iapply (fire d L eV sV b0V cc0_scratch6.sem _ _ fe fi (fun _ => rfl) hin inb_S64x100_S1x100_0_0 0 (by decide) rfl)
  isplitl [J0]; iexact J0
  iintro J0
  sl_exec
  irw [wp_bind]
  iapply (fire d L eV sV b1V cc0_scratch7.sem _ _ fe fi (fun _ => rfl) hin inb_S64x100_S1x100_1_0 1 (by decide) rfl)
  isplitl [J1]; iexact J1
  iintro J1
  sl_exec
  irw [wp_bind]
  iapply (fire d L eV sV b2V cc0_scratch8.sem _ _ fe fi (fun _ => rfl) hin inb_S64x100_S1x100_2_0 2 (by decide) rfl)
  isplitl [J2]; iexact J2
  iintro J2
  sl_exec
  irw [wp_bind]
  iapply (fire d L eV sV b3V cc0_scratch9.sem _ _ fe fi (fun _ => rfl) hin inb_S64x100_S1x100_3_0 3 (by decide) rfl)
  isplitl [J3]; iexact J3
  iintro J3
  ihave J0 := (Entails.of_eq (Slot_zero d L eV sV b0V cc0_scratch6.sem _ _ fe fi 0)) $$ J0
  ihave J1 := (Entails.of_eq (Slot_zero d L eV sV b1V cc0_scratch7.sem _ _ fe fi 1)) $$ J1
  ihave J2 := (Entails.of_eq (Slot_zero d L eV sV b2V cc0_scratch8.sem _ _ fe fi 2)) $$ J2
  ihave J3 := (Entails.of_eq (Slot_zero d L eV sV b3V cc0_scratch9.sem _ _ fe fi 3)) $$ J3
  irw [wp_bind]
  sl_for (fun t _ => TripInv L eV sV b0V b1V b2V b3V aV cc0_scratch6 cc0_scratch7 cc0_scratch8 cc0_scratch9 d (eq4 (nL L) 0) (eq4 (nL L) 1) (eq4 (nL L) 2) (eq4 (nL L) 3) (fq4 0) (fq4 1) (fq4 2) (fq4 3) fe fi O (insert (SemLoc.dma cc0_scoped0.sem, (default : HIx 1)) W) t) $$ [J0 J1 J2 J3 Ha' HO]
  case region =>
    intro t acc
    iintro HI
    iapply (trip_body L lV (Memref.isWhole_whole _) eV (Memref.isWhole_whole _) pV (Memref.isWhole_whole _) sV (Memref.isWhole_whole _)
            b0V (Memref.isWhole_whole _) b1V (Memref.isWhole_whole _) b2V (Memref.isWhole_whole _) b3V (Memref.isWhole_whole _) aV (Memref.isWhole_whole _)
            cc0_scratch6 cc0_scratch7 cc0_scratch8 cc0_scratch9 cc0_scoped0 cc0_scoped1 d (eq4 (nL L) 0) (eq4 (nL L) 1) (eq4 (nL L) 2) (eq4 (nL L) 3) (fq4 0) (fq4 1) (fq4 2) (fq4 3) fe fi O (insert (SemLoc.dma cc0_scoped0.sem, (default : HIx 1)) W)
            (fun _ => rfl) (fun _ => rfl) (fun _ => rfl) (fun _ => rfl) hin t)
    isplitl [HI]; iexact HI
    iintro HI
    iexact HI
  · unfold TripInv
    iframe J0 J1 J2 J3 Hmw
    isplitl [Ha']
    · iexists fa
      isplitr
      rotate_left
      · iexact Ha'
      · ipureintro
        exact fun r j => ⟨fun h => absurd h (by omega), fun h => absurd h (by omega)⟩
    · iexists _
      isplitr
      rotate_left
      · iexact HO
      · ipureintro
        exact fun p h => Or.inl h
  iintro %acc HI
  ihave HI := (Entails.of_eq (congrArg (fun n => TripInv L eV sV b0V b1V b2V b3V aV cc0_scratch6 cc0_scratch7 cc0_scratch8 cc0_scratch9 d (eq4 (nL L) 0) (eq4 (nL L) 1) (eq4 (nL L) 2) (eq4 (nL L) 3) (fq4 0) (fq4 1) (fq4 2) (fq4 3) fe fi O (insert (SemLoc.dma cc0_scoped0.sem, (default : HIx 1)) W) n) (show Scf.trips k0_t1_loop.lb k0_t1_loop.ub k0_t1_loop.st = 16 from trips1))) $$ HI
  unfold TripInv
  icases HI with ⟨J0, J1, J2, J3, ⟨%A, %hA, Ha'⟩, -, %W', %hW', HO⟩
  ihave J0 := (Entails.of_eq (Slot_sixteen d L eV sV b0V cc0_scratch6.sem _ _ fe fi 0)) $$ J0
  ihave J1 := (Entails.of_eq (Slot_sixteen d L eV sV b1V cc0_scratch7.sem _ _ fe fi 1)) $$ J1
  ihave J2 := (Entails.of_eq (Slot_sixteen d L eV sV b2V cc0_scratch8.sem _ _ fe fi 2)) $$ J2
  ihave J3 := (Entails.of_eq (Slot_sixteen d L eV sV b3V cc0_scratch9.sem _ _ fe fi 3)) $$ J3
  sl_exec
  unfold Idle
  icases J0 with ⟨B0, X0, I0, S0⟩
  icases J1 with ⟨B1, X1, I1, S1⟩
  icases J2 with ⟨B2, X2, I2, S2⟩
  icases J3 with ⟨B3, X3, I3, S3⟩
  ihave Hx := (Entails.of_eq (pts_four fe (eq (nL L))).symm) $$ [X0 X1 X2 X3]
  · isplitl [X0]; iexact X0
    isplitl [X1]; iexact X1
    isplitl [X2]; iexact X2
    iexact X3
  ihave Hs := (Entails.of_eq (pts_four fi fullShare).symm) $$ [I0 I1 I2 I3]
  · isplitl [I0]; iexact I0
    isplitl [I1]; iexact I1
    isplitl [I2]; iexact I2
    iexact I3
  ihave Hi := (Entails.of_eq (pts_lists (F := F) d L _)) $$ Hi'
  irw [wp_ret]
  imodintro
  iframe Hi Hx
  isplitl [Ho']
  · iapply (rows_written d L fw fe fo (tile_body.sl.dma0_1 d L A) (rows_pooled d L fw fe fi hread _ hA)) $$ Ho'
  isplitl [Hs B0 B1 B2 B3 Ha' Hbufs]
  · iframe Hbufs
    isplitl [Hs]; iexists fi; iexact Hs
    isplitl [B0]; iexact B0
    isplitl [B1]; iexact B1
    isplitl [B2]; iexact B2
    isplitl [B3]; iexact B3
    iexists A; iexact Ha'
  isplitl [S0 S1 S2 S3 HsemA HsemB Hsems]
  · iframe S0 S1 S2 S3 Hsems
    isplitl [HsemA]; iexact HsemA
    iexact HsemB
  iexists _
  isplitr
  rotate_left
  · iexact HO
  · ipureintro
    intro p hp
    rcases Finset.mem_insert.mp hp with rfl | hp
    · exact Or.inr rfl
    · rcases hW' p hp with h | h
      · rcases Finset.mem_insert.mp h with rfl | h
        · exact Or.inr rfl
        · exact Or.inl h
      · exact Or.inr h

end Tile

end Cert.Proof.Tile
-- ==== Proof.Mlp.lean ====
/-
  The TensorCore kernel of the program on one block: what it stores, and the triple of its body.
-/
module

public import proofs.«01_k».proof.Proof.Common
public import proofs.«01_k».proof.Proof.Gen.KernelIdeal.Points
public import Idealize.ShloMosaic.Lib.Pipeline.ValueKit.Basic

@[expose] public section

set_option maxRecDepth 16384

noncomputable section

namespace Cert.Proof.Tile

open Cert.KernelIdeal Cert.KernelIdeal.Gen Cert.Proof.Launch Cert.Proof.Pool Cert.Proof.Offsets

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## What the perceptron's body computes -/

/-- The block that the body stores: three dense layers, each with its batch normalisation, of the block `x1` of pooled rows;
    the first two are followed by the exponential linear unit. Each layer's parameters are its weight and five rows: bias,
    scale, shift, running mean, running variance. -/
def mlpOut (x1 : Vec F S512x128 .f32) (x2 : Vec F S512x128 .f32) (x3 : Vec F S512x512 .f32) (x4 : Vec F S1000x512 .f32) (x5 : Vec F S1x512 .f32) (x6 : Vec F S1x512 .f32) (x7 : Vec F S1x512 .f32) (x8 : Vec F S1x512 .f32) (x9 : Vec F S1x512 .f32) (x10 : Vec F S1x512 .f32) (x11 : Vec F S1x512 .f32) (x12 : Vec F S1x512 .f32) (x13 : Vec F S1x512 .f32) (x14 : Vec F S1x512 .f32) (x15 : Vec F S1x1000 .f32) (x16 : Vec F S1x1000 .f32) (x17 : Vec F S1x1000 .f32) (x18 : Vec F S1x1000 .f32) (x19 : Vec F S1x1000 .f32) : FVec F S512x1000 .f32 :=
  k1_pay1 (k1_pay3 (k1_pay2 x1 x2 x5 x8 x9 x6 x7 x3) x10 x13 x14 x11 x12 x4 x15 x18) (k1_pay4 x19) x16 x17

/-- A whole buffer held at contents `X`, as the points-to of the one buffer contents that read `X`. -/
theorem owns_whole {s : Shape} {e : EltTy} (c : Dev nD) (m : Memref sig .tc .vmem s e) (h : m.IsWhole) (X : s.Idx → Elt F e) :
    (owns c.tc m fullShare X : sProp (𝕄 F)) = (m.view.loc c.tc ↦[m.view.set]{fullShare} h.unread X) := by
  unfold owns
  have h₁ : iprop(∃ f, ⌜m.view.read (Elt F) f = X⌝ ∗ (m.view.loc c.tc ↦[m.view.set]{fullShare} f)) ⊢
      (m.view.loc c.tc ↦[m.view.set]{fullShare} h.unread X : sProp (𝕄 F)) := by
    iintro ⟨%f, %hf, H⟩
    obtain rfl := h.eq_unread hf
    iexact H
  have h₂ : (m.view.loc c.tc ↦[m.view.set]{fullShare} h.unread X : sProp (𝕄 F)) ⊢
      iprop(∃ f, ⌜m.view.read (Elt F) f = X⌝ ∗ (m.view.loc c.tc ↦[m.view.set]{fullShare} f)) := by
    iintro H
    iexists _; isplitr; · ipureintro; exact h.read_unread _
    iexact H
  exact BI.Entails.antisymm h₁ h₂

/-- A load of a whole matrix through the whole rectangle reads its contents. -/
theorem readAt_unread {n : Fin 2 → ℕ} {e : EltTy} (m : Memref sig .tc .vmem ⟨2, n⟩ e) (h : m.IsWhole) (X : (⟨2, n⟩ : Shape).Idx → Elt F e)
    (inb : ∀ a, (![0, 0] : Fin 2 → ℕ) a + n a ≤ n a) :
    m.view.readAt (Elt F) (Rect.unit (s := ⟨2, n⟩) ![0, 0] n inb).toLoadRect (h.unread X) = X := by
  rw [View.readAt_eq_ld, h.read_unread]
  exact View.ld_unit_lit (S := ⟨2, n⟩) inb X (show ∀ a, (![0, 0] : Fin 2 → ℕ) a = 0 by decide)

/-- A store of a whole matrix through the whole rectangle leaves what it stores. -/
theorem writes_unread {n : Fin 2 → ℕ} {e : EltTy} (m : Memref sig .tc .vmem ⟨2, n⟩ e) (h : m.IsWhole) (f : m.view.ty.Contents (Elt F))
    (w : (⟨2, n⟩ : Shape).Idx → Elt F e) (inb : ∀ a, (![0, 0] : Fin 2 → ℕ) a + n a ≤ n a) :
    m.view.writes (Elt F) f [⟨Rect.unit (s := ⟨2, n⟩) ![0, 0] n inb, w⟩] = h.unread w := by
  refine h.eq_unread ?_
  have h0 : (![0, 0] : Fin 2 → ℕ) = fun _ => 0 := funext (by decide)
  generalize hz : (![0, 0] : Fin 2 → ℕ) = off at inb
  obtain rfl : off = fun _ => 0 := hz.symm.trans h0
  exact View.read_writes_whole m.view f w

/-! ## The body's triple -/

/-- On whole staging buffers, the inputs at their contents and the output's at anything, the body runs and leaves the inputs
    as they were and the output at `mlpOut` of them. -/
theorem sound_mlp (c : Dev nD) (E : Set ℕ) (i : grid1.Coords) (arg1 : Memref sig .tc .vmem S512x128 .f32) (harg1 : arg1.IsWhole) (arg2 : Memref sig .tc .vmem S512x128 .f32) (harg2 : arg2.IsWhole) (arg3 : Memref sig .tc .vmem S512x512 .f32) (harg3 : arg3.IsWhole) (arg4 : Memref sig .tc .vmem S1000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x1000 .f32) (harg15 : arg15.IsWhole) (arg16 : Memref sig .tc .vmem S1x1000 .f32) (harg16 : arg16.IsWhole) (arg17 : Memref sig .tc .vmem S1x1000 .f32) (harg17 : arg17.IsWhole) (arg18 : Memref sig .tc .vmem S1x1000 .f32) (harg18 : arg18.IsWhole) (arg19 : Memref sig .tc .vmem S1x1000 .f32) (harg19 : arg19.IsWhole) (arg20 : Memref sig .tc .vmem S512x1000 .f32) (harg20 : arg20.IsWhole)
    (x1 : Vec F S512x128 .f32) (x2 : Vec F S512x128 .f32) (x3 : Vec F S512x512 .f32) (x4 : Vec F S1000x512 .f32) (x5 : Vec F S1x512 .f32) (x6 : Vec F S1x512 .f32) (x7 : Vec F S1x512 .f32) (x8 : Vec F S1x512 .f32) (x9 : Vec F S1x512 .f32) (x10 : Vec F S1x512 .f32) (x11 : Vec F S1x512 .f32) (x12 : Vec F S1x512 .f32) (x13 : Vec F S1x512 .f32) (x14 : Vec F S1x512 .f32) (x15 : Vec F S1x1000 .f32) (x16 : Vec F S1x1000 .f32) (x17 : Vec F S1x1000 .f32) (x18 : Vec F S1x1000 .f32) (x19 : Vec F S1x1000 .f32) (K : PUnit → sProp (𝕄 F)) :
    iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ owns c.tc arg11 fullShare x11 ∗ owns c.tc arg12 fullShare x12 ∗ owns c.tc arg13 fullShare x13 ∗ owns c.tc arg14 fullShare x14 ∗ owns c.tc arg15 fullShare x15 ∗ owns c.tc arg16 fullShare x16 ∗ owns c.tc arg17 fullShare x17 ∗ owns c.tc arg18 fullShare x18 ∗ owns c.tc arg19 fullShare x19 ∗ (∃ d, owns c.tc arg20 fullShare d)
        ∗ (iprop(owns c.tc arg1 fullShare x1 ∗ owns c.tc arg2 fullShare x2 ∗ owns c.tc arg3 fullShare x3 ∗ owns c.tc arg4 fullShare x4 ∗ owns c.tc arg5 fullShare x5 ∗ owns c.tc arg6 fullShare x6 ∗ owns c.tc arg7 fullShare x7 ∗ owns c.tc arg8 fullShare x8 ∗ owns c.tc arg9 fullShare x9 ∗ owns c.tc arg10 fullShare x10 ∗ owns c.tc arg11 fullShare x11 ∗ owns c.tc arg12 fullShare x12 ∗ owns c.tc arg13 fullShare x13 ∗ owns c.tc arg14 fullShare x14 ∗ owns c.tc arg15 fullShare x15 ∗ owns c.tc arg16 fullShare x16 ∗ owns c.tc arg17 fullShare x17 ∗ owns c.tc arg18 fullShare x18 ∗ owns c.tc arg19 fullShare x19 ∗ owns c.tc arg20 fullShare (mlpOut x1 x2 x3 x4 x5 x6 x7 x8 x9 x10 x11 x12 x13 x14 x15 x16 x17 x18 x19)) -∗ K ⟨⟩))
      ⊢ wp frame (wpE (defs₀ (F := F)) Variants.none c.tc none) E (cc1__mlp_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc1__mlp_body_eq_skeleton]; unfold cc1__mlp_body_skel
  simp only [k1_part1_eq_skeleton, k1_part2_eq_skeleton]; unfold k1_part1_skel k1_part2_skel
  simp only [owns_whole c arg1 harg1, owns_whole c arg2 harg2, owns_whole c arg3 harg3, owns_whole c arg4 harg4, owns_whole c arg5 harg5, owns_whole c arg6 harg6, owns_whole c arg7 harg7, owns_whole c arg8 harg8, owns_whole c arg9 harg9, owns_whole c arg10 harg10, owns_whole c arg11 harg11, owns_whole c arg12 harg12, owns_whole c arg13 harg13, owns_whole c arg14 harg14, owns_whole c arg15 harg15, owns_whole c arg16 harg16, owns_whole c arg17 harg17, owns_whole c arg18 harg18, owns_whole c arg19 harg19, owns_whole c arg20 harg20]
  iintro ⟨H1, H2, H3, H4, H5, H6, H7, H8, H9, H10, H11, H12, H13, H14, H15, H16, H17, H18, H19, ⟨%x20, H20⟩, Hk⟩
  sl_exec
  sl_step
  iapply Hk
  ihave H20 := (Entails.of_eq (congrArg (fun f => (arg20.view.loc c.tc ↦[arg20.view.set]{fullShare} f : sProp (𝕄 F)))
    (writes_unread arg20 harg20 _ _ _))) $$ H20
  simp only [readAt_unread]
  sl_close

end Cert.Proof.Tile
-- ==== Proof.Region.lean ====
/-
  The TensorCore kernel as a pipeline over the rows: what each point finds and leaves, and its obligation.
-/
module

public import proofs.«01_k».proof.Proof.Mlp
public import proofs.«01_k».proof.Proof.Gen.KernelIdeal.Launch

@[expose] public section

set_option maxRecDepth 16384

noncomputable section

namespace Cert.Proof.Tile

open Cert.KernelIdeal Cert.KernelIdeal.Gen Cert.Proof.Launch Cert.Proof.Pool Cert.Proof.Offsets

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.TcCoe
open Idealize.ShloMosaic.Pipeline (Dat BodyObligation)

/-- The tensors on every device when the TensorCore kernel is entered. -/
abbrev Vals (F : FTy → Type) := Dev nD → Valuation τ sig (Elt F)

variable (Vd : Vals F)

/-- No window's blocks are cut. -/
theorem clip_none (w : Fin cfg1.W) (i : cfg1.grid.Coords) (a) : (cfg1.win w).clip i a = none := by
  fin_cases w <;> rfl

/-- An index of window `w`'s block, as one of the part that the transfers move: all of it. -/
def xin (w : Fin cfg1.W) (i : cfg1.grid.Coords) (j : (cfg1.win w).block.Idx) : ((cfg1.win w).xblock i).Idx :=
  fun a => (j a).cast (show (cfg1.win w).size a = (cfg1.win w).xsize i a by unfold Pipeline.Window.xsize; rw [clip_none])

/-- Window `w`'s block at point `t`, read off its array. -/
def iblk (c : Dev nD) (w : Fin cfg1.W) (t : Fin cfg1.N) : (cfg1.win w).block.Idx → Elt F (cfg1.win w).elt :=
  fun j => ((cfg1.win w).blk t).view.read (Elt F) (Vd c (Pipeline.arrRef spec1 w)) (xin w _ j)

/-- What the body stores at point `t`. -/
def oblk (c : Dev nD) (t : Fin cfg1.N) : (cfg1.win 19).block.Idx → Elt F (cfg1.win 19).elt :=
  mlpOut (iblk Vd c 0 t) (iblk Vd c 1 t) (iblk Vd c 2 t) (iblk Vd c 3 t) (iblk Vd c 4 t) (iblk Vd c 5 t) (iblk Vd c 6 t) (iblk Vd c 7 t) (iblk Vd c 8 t) (iblk Vd c 9 t) (iblk Vd c 10 t) (iblk Vd c 11 t) (iblk Vd c 12 t) (iblk Vd c 13 t) (iblk Vd c 14 t) (iblk Vd c 15 t) (iblk Vd c 16 t) (iblk Vd c 17 t) (iblk Vd c 18 t)

/-- The pairs that waits may have recorded before the kernel: none sits above the level that the SparseCore call reached. -/
def low (c : Dev nD) : Set (SemLoc sig × HIx 1) := {p | (K (F := F)).lev (SparseCore.T c, p.1) p.2 ≤ 8 * SparseCore.Cfg.Blocks.fst (Q := 1) (N := 1) 1}

/-- The pipeline's proof data: the arrays as the region finds them; the body leaves each input block in place and the output
    block at `oblk`; nothing else is held, nothing is owed. -/
def dats (_ : Fin 1) (c : Dev nD) : Dat τ (Elt F) (HIx 1) ℕ UU ℕ cfg1 c where
  A w := Vd c (Pipeline.arrRef spec1 w)
  after w t := if h : w = 19 then by subst h; exact oblk Vd c t else iblk Vd c w t
  Φ _ := BI.emp
  q _ := fullShare
  owed _ := 0
  recorded _ := low (F := F) c

theorem A_eq (c : Dev nD) (w : Fin cfg1.W) : (dats Vd 0 c).A w = Vd c (Pipeline.arrRef spec1 w) := by
  dsimp only [dats]

theorem after_in (c : Dev nD) (w : Fin cfg1.W) (h : w ≠ 19) (t : Fin cfg1.N) : (dats Vd 0 c).after w t = iblk Vd c w t := by
  dsimp only [dats]; rw [dif_neg h]

theorem after_out (c : Dev nD) (t : Fin cfg1.N) : (dats Vd 0 c).after 19 t = oblk Vd c t := by
  dsimp only [dats]; rw [dif_pos rfl]

theorem isOut_in : ∀ w : Fin cfg1.W, w ≠ 19 → (cfg1.win w).isOut = false := by decide

/-- The body finds each input window's block, fetched at this point or before. -/
theorem before_in (c : Dev nD) (w : Fin cfg1.W) (h : w ≠ 19) (t : Fin cfg1.N) (d) : (dats Vd 0 c).before w t d = iblk Vd c w t := by
  refine ((dats Vd 0 c).before_in_eq_fetched w (isOut_in w h) (fun _ => rfl) (fun t t' _ => ?_) (fun t => ?_) t d).trans ?_
  · funext a; rw [clip_none, clip_none]
  · rw [after_in Vd c w h]; unfold Dat.blockOf iblk; rw [A_eq]
    exact funext fun y => congrArg _ (funext fun a => Fin.ext rfl)
  · unfold Dat.fetched Dat.blockOf iblk Pipeline.Window.fill; rw [A_eq]
    funext j
    rw [dif_pos (((cfg1.win w).moved_iff _ j).mpr fun a => (xin w _ j a).isLt)]
    exact congrArg _ (funext fun a => Fin.ext rfl)

/-! ## The body's obligation, at a generic point -/

def bodyPre (c : Dev nD) (t : Fin cfg1.N) : sProp (𝕄 F) :=
  iprop((dats Vd 0 c).Φ t.castSucc ∗ (dats Vd 0 c).owesAt none t.castSucc
    ∗ (∃ d, owns c.tc (st1_0 t) fullShare ((dats Vd 0 c).before 0 t d)) ∗ (∃ d, owns c.tc (st1_1 t) fullShare ((dats Vd 0 c).before 1 t d)) ∗ (∃ d, owns c.tc (st1_2 t) fullShare ((dats Vd 0 c).before 2 t d)) ∗ (∃ d, owns c.tc (st1_3 t) fullShare ((dats Vd 0 c).before 3 t d)) ∗ (∃ d, owns c.tc (st1_4 t) fullShare ((dats Vd 0 c).before 4 t d)) ∗ (∃ d, owns c.tc (st1_5 t) fullShare ((dats Vd 0 c).before 5 t d)) ∗ (∃ d, owns c.tc (st1_6 t) fullShare ((dats Vd 0 c).before 6 t d)) ∗ (∃ d, owns c.tc (st1_7 t) fullShare ((dats Vd 0 c).before 7 t d)) ∗ (∃ d, owns c.tc (st1_8 t) fullShare ((dats Vd 0 c).before 8 t d)) ∗ (∃ d, owns c.tc (st1_9 t) fullShare ((dats Vd 0 c).before 9 t d)) ∗ (∃ d, owns c.tc (st1_10 t) fullShare ((dats Vd 0 c).before 10 t d)) ∗ (∃ d, owns c.tc (st1_11 t) fullShare ((dats Vd 0 c).before 11 t d)) ∗ (∃ d, owns c.tc (st1_12 t) fullShare ((dats Vd 0 c).before 12 t d)) ∗ (∃ d, owns c.tc (st1_13 t) fullShare ((dats Vd 0 c).before 13 t d)) ∗ (∃ d, owns c.tc (st1_14 t) fullShare ((dats Vd 0 c).before 14 t d)) ∗ (∃ d, owns c.tc (st1_15 t) fullShare ((dats Vd 0 c).before 15 t d)) ∗ (∃ d, owns c.tc (st1_16 t) fullShare ((dats Vd 0 c).before 16 t d)) ∗ (∃ d, owns c.tc (st1_17 t) fullShare ((dats Vd 0 c).before 17 t d)) ∗ (∃ d, owns c.tc (st1_18 t) fullShare ((dats Vd 0 c).before 18 t d)) ∗ (∃ d, owns c.tc (st1_19 t) fullShare ((dats Vd 0 c).before 19 t d)))

def bodyPost (c : Dev nD) (t : Fin cfg1.N) : sProp (𝕄 F) :=
  iprop((dats Vd 0 c).Φ t.succ ∗ (dats Vd 0 c).owesAt none t.succ
    ∗ owns c.tc (st1_0 t) fullShare ((dats Vd 0 c).after 0 t) ∗ owns c.tc (st1_1 t) fullShare ((dats Vd 0 c).after 1 t) ∗ owns c.tc (st1_2 t) fullShare ((dats Vd 0 c).after 2 t) ∗ owns c.tc (st1_3 t) fullShare ((dats Vd 0 c).after 3 t) ∗ owns c.tc (st1_4 t) fullShare ((dats Vd 0 c).after 4 t) ∗ owns c.tc (st1_5 t) fullShare ((dats Vd 0 c).after 5 t) ∗ owns c.tc (st1_6 t) fullShare ((dats Vd 0 c).after 6 t) ∗ owns c.tc (st1_7 t) fullShare ((dats Vd 0 c).after 7 t) ∗ owns c.tc (st1_8 t) fullShare ((dats Vd 0 c).after 8 t) ∗ owns c.tc (st1_9 t) fullShare ((dats Vd 0 c).after 9 t) ∗ owns c.tc (st1_10 t) fullShare ((dats Vd 0 c).after 10 t) ∗ owns c.tc (st1_11 t) fullShare ((dats Vd 0 c).after 11 t) ∗ owns c.tc (st1_12 t) fullShare ((dats Vd 0 c).after 12 t) ∗ owns c.tc (st1_13 t) fullShare ((dats Vd 0 c).after 13 t) ∗ owns c.tc (st1_14 t) fullShare ((dats Vd 0 c).after 14 t) ∗ owns c.tc (st1_15 t) fullShare ((dats Vd 0 c).after 15 t) ∗ owns c.tc (st1_16 t) fullShare ((dats Vd 0 c).after 16 t) ∗ owns c.tc (st1_17 t) fullShare ((dats Vd 0 c).after 17 t) ∗ owns c.tc (st1_18 t) fullShare ((dats Vd 0 c).after 18 t) ∗ owns c.tc (st1_19 t) fullShare ((dats Vd 0 c).after 19 t))

theorem sound_body (c : Dev nD) (t : Fin cfg1.N) :
    bodyPre Vd c t ⊢ wp frame (wpE (defs₀ (F := F)) Variants.none c.tc none) Set.univ (bodyAt1 t) (fun _ => bodyPost Vd c t) := by
  unfold bodyPre bodyPost bodyAt1
  simp only [before_in Vd c 0 (by decide), after_in Vd c 0 (by decide), before_in Vd c 1 (by decide), after_in Vd c 1 (by decide), before_in Vd c 2 (by decide), after_in Vd c 2 (by decide), before_in Vd c 3 (by decide), after_in Vd c 3 (by decide), before_in Vd c 4 (by decide), after_in Vd c 4 (by decide), before_in Vd c 5 (by decide), after_in Vd c 5 (by decide), before_in Vd c 6 (by decide), after_in Vd c 6 (by decide), before_in Vd c 7 (by decide), after_in Vd c 7 (by decide), before_in Vd c 8 (by decide), after_in Vd c 8 (by decide), before_in Vd c 9 (by decide), after_in Vd c 9 (by decide), before_in Vd c 10 (by decide), after_in Vd c 10 (by decide), before_in Vd c 11 (by decide), after_in Vd c 11 (by decide), before_in Vd c 12 (by decide), after_in Vd c 12 (by decide), before_in Vd c 13 (by decide), after_in Vd c 13 (by decide), before_in Vd c 14 (by decide), after_in Vd c 14 (by decide), before_in Vd c 15 (by decide), after_in Vd c 15 (by decide), before_in Vd c 16 (by decide), after_in Vd c 16 (by decide), before_in Vd c 17 (by decide), after_in Vd c 17 (by decide), before_in Vd c 18 (by decide), after_in Vd c 18 (by decide), after_out]
  rw [show (dats Vd 0 c).Φ t.succ = (dats Vd 0 c).Φ t.castSucc from rfl,
    show (dats Vd 0 c).owesAt none t.succ = (dats Vd 0 c).owesAt none t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_mlp c Set.univ (grid1.coords t) _ _ _ _ _ _ _ _ _ _ _ _ _ _ _ _ _ _ _ _ _ _ _ _ _ _ _ _ _ _ _ _ _ _ _ _ _ _ _ _ (iblk Vd c 0 t) (iblk Vd c 1 t) (iblk Vd c 2 t) (iblk Vd c 3 t) (iblk Vd c 4 t) (iblk Vd c 5 t) (iblk Vd c 6 t) (iblk Vd c 7 t) (iblk Vd c 8 t) (iblk Vd c 9 t) (iblk Vd c 10 t) (iblk Vd c 11 t) (iblk Vd c 12 t) (iblk Vd c 13 t) (iblk Vd c 14 t) (iblk Vd c 15 t) (iblk Vd c 16 t) (iblk Vd c 17 t) (iblk Vd c 18 t) _)
  iframel
  isplitl [H19]; · iexists _; iexact H19
  iintro ⟨H0, H1, H2, H3, H4, H5, H6, H7, H8, H9, H10, H11, H12, H13, H14, H15, H16, H17, H18, H19⟩
  unfold oblk
  iframel

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rfl

theorem body_obligation (c : Dev nD) : BodyObligation (dats Vd 0 c) (defs₀ (F := F)) Variants.none none Set.univ := fun t => by
  rw [bigSep_W1, bigSep_W1, defs₀_row]
  exact triple_restated (sound_body Vd c t) rfl .rfl fun _ => .rfl

end Cert.Proof.Tile
-- ==== Proof.Segment.lean ====
/-
  The TensorCore kernel as a region of the host program: the tensors it is entered with and those it leaves.
-/
module

public import proofs.«01_k».proof.Proof.Region
public import Idealize.ShloMosaic.Lib.Pipeline.FrameTail
public import Idealize.ShloMosaic.Lib.Pipeline.RegionArrays

@[expose] public section

set_option maxRecDepth 16384

noncomputable section

namespace Cert.Proof.Tile

open Cert.KernelIdeal Cert.KernelIdeal.Gen Cert.Proof.Launch Cert.Proof.Pool Cert.Proof.Offsets

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.TcCoe
open Idealize.ShloMosaic.Pipeline (Dat BodyObligation RegionSeg afterRegion ucRefs)

variable (Vd : Vals F)

/-- No pipeline of the program prefetches a table. -/
abbrev adm : (p : Fin 1) → (pcfgs (F := F) p).Adm := fun p => (cfgs p).toPCfg_adm

/-- The tensors on every device when the TensorCore kernel has run. -/
def Vend (c : Dev nD) : Valuation τ sig (Elt F) := afterRegion (dats Vd 0 c) (Vd c)

/-- The core owes nothing, and its waits so far were low. -/
def lowOwes (c : Dev nD) : sProp (𝕄 F) :=
  iprop(∃ W, ⌜(K (F := F)).WBelow (SparseCore.T c) W (8 * SparseCore.Cfg.Blocks.fst (Q := 1) (N := 1) 1)⌝
    ∗ owes (SparseCore.T c) (0 : CellTallies nD τ sig (HIx 1)) W)

theorem owes_in (c : Dev nD) (t) : lowOwes c ⊢ ((dats Vd 0 c).owesAt none t : sProp (𝕄 F)) := by
  unfold lowOwes Dat.owesAt Pipeline.owesWithin
  iintro ⟨%W, %hW, HO⟩
  iexists W; isplitr; · ipureintro; exact fun p hp => Or.inl (hW p hp)
  iexact HO

theorem owes_out (c : Dev nD) (t) : ((dats Vd 0 c).owesAt none t : sProp (𝕄 F)) ⊢ lowOwes c := by
  unfold lowOwes Dat.owesAt Pipeline.owesWithin
  iintro ⟨%W, %hW, HO⟩
  iexists W; isplitr
  · ipureintro
    intro p hp
    rcases hW hp with h | ⟨w, s, rfl⟩
    · exact h
    · exact Nat.zero_le _
  iexact HO

set_option backward.isDefEq.respectTransparency.types false in
/-- The TensorCore kernel as a region of the host's program: from the unscoped tensors at `Vd` to the same at `Vend`. -/
def reg : RegionSeg (pcfgs (F := F)) adm (dats Vd) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation Vd c).loose
  hwaits := Pipeline.hwaits_of_owed_zero _ _ _ _ (K (F := F)).L (K (F := F)).lev 0 fun _ _ => rfl
  pre c := iprop(StableHlo.held c.tc (ucRefs τ sig) (Vd c) ∗ lowOwes c)
  post c := iprop(StableHlo.held c.tc (ucRefs τ sig) (Vend Vd c) ∗ lowOwes c)
  X _ := BI.emp
  Y _ := BI.emp
  Z c := Pipeline.unscopedRest spec1 c fun b => Vd c (Proc.devRef .tc b)
  hentry c := by
    have hs := Pipeline.arrays_of_unscopedBufs (pcfgs (F := F)) adm (dats Vd) launch1.win launch1.arr_whole c
      ((dats Vd 0 c).share_full fun _ => rfl) (fun b => Vd c (Proc.devRef .tc b)) (A_eq Vd c)
    rw [← Pipeline.unscopedBufs_held, Pipeline.ownSems0_none, Pipeline.prefHeld_of_none _ rfl]
    iintro ⟨⟨Hub, HO⟩, -, -⟩
    ihave H := hs $$ Hub
    icases H with ⟨Ha, Hr⟩
    imodintro
    isplitl [Ha]; · iexact Ha
    isplitr; · iempintro
    isplitl [HO]; · iapply (owes_in Vd c 0); iexact HO
    isplitr; · iempintro
    iexact Hr
  hin c := by
    rw [Pipeline.prefHeld_of_none _ rfl, scopedRest1_eq]
    exact show iprop(BI.emp ∗ BI.emp ∗ BI.emp) ⊢ (BI.emp : sProp (𝕄 F)) by iintro -; iempintro
  hout c := by
    rw [Pipeline.ownSems0_none, scopedRest1_eq]
    exact show (BI.emp : sProp (𝕄 F)) ⊢ iprop(BI.emp ∗ BI.emp ∗ BI.emp) by
      iintro -; isplitr; · iempintro
      isplitr <;> iempintro
  hexit c := by
    have hj := Pipeline.unscopedBufs_of_arrays (pcfgs (F := F)) adm launch1.win launch1.arr_whole c (dats Vd)
      ((dats Vd 0 c).share_full fun _ => rfl)
      (fun b => Vd c (Proc.devRef .tc b)) (fun b => Vend Vd c (Proc.devRef .tc b)) ((dats Vd 0 c).arrAt · cfg1.N)
      (fun w => (Pipeline.afterRegion_arr (dats Vd 0 c) (Vd c) launch1.win.arr_inj w).symm)
      (fun b hb => Pipeline.afterRegion_of_not_arr (dats Vd 0 c) (Vd c)
        fun w h => hb (h ▸ Finset.mem_image.mpr ⟨w, Finset.mem_univ _, rfl⟩))
    rw [← Pipeline.unscopedBufs_held]
    iintro ⟨Ha, HO, -, Hr⟩
    imodintro
    isplitl [Ha Hr]
    · iapply hj; isplitl [Ha] <;> iassumption
    iapply (owes_out Vd c _); iexact HO

end Cert.Proof.Tile
-- ==== Proof.Call.lean ====
/-
  The SparseCore call: what the host hands each core and each tile and what comes back, and the launch of the whole
  program's ghost state.
-/
module

public import proofs.«01_k».proof.Proof.Tile
public import proofs.«01_k».proof.Proof.Segment

@[expose] public section

set_option maxRecDepth 16384

noncomputable section

namespace Cert.Proof.Tile

open Cert.KernelIdeal Cert.KernelIdeal.Gen Cert.Proof.Launch Cert.Proof.Pool Cert.Proof.Offsets

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.Pipeline (cellsGhost toksInit)

abbrev 𝒱 : Variants := 𝒱₀.lift
abbrev v₀ : 𝒱.V := Sum.inl none

section Pay

variable (fw : ∀ d : Dev nD, Buf (Elt F) (lLoc d)) (fe : ∀ d : Dev nD, Buf (Elt F) (eLoc d)) (fo : ∀ d : Dev nD, Buf (Elt F) (pLoc d))

/-- The piece number of tile `i` on core `c`. -/
abbrev piece (c : Fin 2) (i : Fin 16) : Fin 32 := finProdFinEquiv (i, c)

/-- What one core is handed: its sixteen tiles' lists, shares of the table and rows of the output. -/
def corePieces (d : Dev nD) (g : Buf (Elt F) (pLoc d)) (c : Fin 2) : sProp (𝕄 F) :=
  bigSep Finset.univ fun i : Fin 16 => piecesAt d (fw d) (fe d) g (piece c i)

/-- The call's traffic: the lists, shares of the table and the output's rows go out and return, the rows pooled. -/
def P : (K (F := F)).Pay (nD := nD) (Val := Elt F) (Name := ℕ) (U := UU) where
  st := fun q d c => match q with | 0 => corePieces fw fe d (fo d) (Fin.cast nCore_zero c)
  dn := fun q d c => match q with | 0 => corePieces fw fe d (pooledRows (fe d) (fw d)) (Fin.cast nCore_zero c)
  go := fun q d c i => match q with
    | 0 => piecesAt d (fw d) (fe d) (fo d) (piece (Fin.cast nCore_zero c) (Fin.cast nSub_zero i))
  td := fun q d c i => match q with
    | 0 => piecesAt d (fw d) (fe d) (pooledRows (fe d) (fw d)) (piece (Fin.cast nCore_zero c) (Fin.cast nSub_zero i))
  x := fun _ _ => iprop(emp)

instance piecesAt_storable (d) (f : Buf (Elt F) (lLoc d)) (e : Buf (Elt F) (eLoc d)) (g : Buf (Elt F) (pLoc d)) (n) :
    BI.Storable (upEmb : UEmb _ (𝕄 F)) (piecesAt d f e g n) := by unfold piecesAt; infer_instance

instance corePieces_storable (d) (g : Buf (Elt F) (pLoc d)) (c) :
    BI.Storable (upEmb : UEmb _ (𝕄 F)) (corePieces fw fe d g c) := by unfold corePieces; infer_instance

instance P_storable : (P (F := F) fw fe fo).IsStorable where
  st q d c := match q with | 0 => corePieces_storable fw fe d (fo d) (Fin.cast nCore_zero c)
  dn q d c := match q with | 0 => corePieces_storable fw fe d (pooledRows (fe d) (fw d)) (Fin.cast nCore_zero c)
  go q d c i := match q with | 0 => piecesAt_storable d (fw d) (fe d) (fo d) (piece (Fin.cast nCore_zero c) (Fin.cast nSub_zero i))
  td q d c i := match q with
    | 0 => piecesAt_storable d (fw d) (fe d) (pooledRows (fe d) (fw d)) (piece (Fin.cast nCore_zero c) (Fin.cast nSub_zero i))

/-- The grid point of core `c`'s tile `i`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) : defs₀ (F := F) (.scVector c s) 0 () = SparseCore.onTile hcore0 hsub0
    (fun c s => cc0__pool_body (coordsV c s) (Memref.whole main_v0_scv) (Memref.isWhole_whole _) (Memref.whole main_arg1_scv) (Memref.isWhole_whole _) (Memref.whole main_v16_scv) (Memref.isWhole_whole _) (Memref.whole cc0_scratch0) (Memref.isWhole_whole _)
            (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 cc0_scoped1) ⟨⟩ c s := rfl

theorem obl_post {thr : Thread nD τ} {A B C : sProp (𝕄 F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

theorem nL_coords (c : Fin 2) (i : Fin 16) : nL (coordsV c i) = piece c i :=
  Fin.ext (show 2 * i.val + c.val = c.val + 2 * i.val from Nat.add_comm _ _)

/-- Every tile meets its obligation when the lists' words are rows of the table. -/
theorem tileObl (hpre : ∀ d j, (fw d j).toNat < 1000000) : (K (F := F)).TileObl (D (F := F)) 𝒱 (P fw fe fo) v₀ 0 := by
  intro d c i O W hO _ _
  simp only [show (P fw fe fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := (tile_body d (coordsV ⟨_, hci.1⟩ ⟨_, hci.2⟩) facts (fw d) (fe d) (fo d) (hpre d) O W hO).trans
    (wp_mono frame _ _ fun _ => obl_post (q := 0))
  rw [show nL (coordsV ⟨_, hci.1⟩ ⟨_, hci.2⟩) = piece (Fin.cast nCore_zero c) (Fin.cast nSub_zero i) from nL_coords _ _] at h
  exact h

theorem bigSep_tasks (Φ : Fin 16 → sProp (𝕄 F)) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp (𝕄 F)) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P fw fe fo) 0 := by
  intro d c
  show corePieces fw fe d (fo d) (Fin.cast nCore_zero c) ⊢ |={Set.univ}=> iprop(
      (bigSep Finset.univ fun i : Fin ((K (F := F)).nSub 0) => piecesAt d (fw d) (fe d) (fo d) (piece (Fin.cast nCore_zero c) (Fin.cast nSub_zero i)))
      ∗ ((bigSep Finset.univ fun i : Fin ((K (F := F)).nSub 0) =>
            piecesAt d (fw d) (fe d) (pooledRows (fe d) (fw d)) (piece (Fin.cast nCore_zero c) (Fin.cast nSub_zero i)))
          -∗ corePieces fw fe d (pooledRows (fe d) (fw d)) (Fin.cast nCore_zero c)))
  rw [bigSep_tasks (F := F) (fun i => piecesAt d (fw d) (fe d) (fo d) (piece (Fin.cast nCore_zero c) i)),
    bigSep_tasks (F := F) (fun i => piecesAt d (fw d) (fe d) (pooledRows (fe d) (fw d)) (piece (Fin.cast nCore_zero c) i))]
  unfold corePieces
  iintro H; imodintro
  isplitl [H]; · iexact H
  iintro H; iexact H

/-- The three whole tensors are what the call takes, and after it the same with the rows pooled. -/
theorem st_eq (d : Dev nD) : (bigSep Finset.univ fun c : Fin ((K (F := F)).nCore 0) => (P fw fe fo).st 0 d c)
    = iprop((lLoc d ↦{fullShare} fw d) ∗ (eLoc d ↦{fullShare} fe d) ∗ (pLoc d ↦{fullShare} fo d)) :=
  (bigSep_cores (corePieces fw fe d (fo d))).trans
    ((pieces_cores (piecesAt d (fw d) (fe d) (fo d))).symm.trans (whole_pieces d (fw d) (fe d) (fo d)).symm)

theorem dn_eq (d : Dev nD) : (bigSep Finset.univ fun c : Fin ((K (F := F)).nCore 0) => (P fw fe fo).dn 0 d c)
    = iprop((lLoc d ↦{fullShare} fw d) ∗ (eLoc d ↦{fullShare} fe d) ∗ (pLoc d ↦{fullShare} pooledRows (fe d) (fw d))) :=
  (bigSep_cores (corePieces fw fe d (pooledRows (fe d) (fw d)))).trans
    ((pieces_cores (piecesAt d (fw d) (fe d) (pooledRows (fe d) (fw d)))).symm.trans (whole_pieces d (fw d) (fe d) _).symm)

/-! ## The ghost state the program starts with -/

/-- The handshakes' rounds, the pipeline's rounds, no counter yet. -/
def u₀ : UU := (initOf (K (F := F)).hsCells (K (F := F)).hsToks,
  (initOf (Pipeline.cells cfgs cellOf_inj) (Pipeline.launchToks cfgs cellOf_inj), 1))

/-- The pipeline's own ghost state on device `d`. -/
abbrev X (d : Dev nD) : sProp (𝕄 F) := iprop(cellsGhost cfgs EP 0 d ∗ toksInit cfgs EP 0 d)

theorem bigSep_emp' {I : Type} (s : Finset I) : (bigSep s fun _ => iprop(emp)) = (iprop(emp) : sProp (𝕄 F)) := bigSep_emp_const s

theorem hu₀ : (ownU (u₀ (F := F)) : sProp (𝕄 F))
    ⊢ |={Set.univ}=> iprop(BI.own (EH (initOf (K (F := F)).hsCells (K (F := F)).hsToks)) ∗ (bigSep Finset.univ fun d : Dev nD => X d)
        ∗ bigSep Finset.univ fun thr : Thread nD τ => bigSep Finset.univ fun q : Fin 1 => (P fw fe fo).x q thr) := by
  unfold u₀
  iintro Hu
  ihave H := (ownU_pair (initOf (K (F := F)).hsCells (K (F := F)).hsToks)
    (initOf (Pipeline.cells cfgs cellOf_inj) (Pipeline.launchToks cfgs cellOf_inj), (1 : Counters))) $$ Hu
  icases H with ⟨HH, HR⟩
  ihave H := (own_pair_emb (embR : Emb (UP × Counters) (𝕄 F)) (initOf (Pipeline.cells cfgs cellOf_inj) (Pipeline.launchToks cfgs cellOf_inj)) (1 : Counters)) $$ HR
  icases H with ⟨HP, -⟩
  ihave H := (Pipeline.fund_ghost cfgs (EP (F := F)) cellOf_inj) $$ HP
  imod H
  icases H with ⟨HC, HT⟩
  imodintro
  isplitl [HH]; · iexact HH
  isplitl [HC HT]
  · rw [bigSep_sep', show (bigSep Finset.univ fun d : Dev nD => cellsGhost cfgs (EP (F := F)) 0 d)
        = bigSep Finset.univ fun d : Dev nD => bigSep Finset.univ fun p : Fin 1 => cellsGhost cfgs (EP (F := F)) p d from
        bigSep_congr fun d _ => (bigSep_univ_of_subsingleton (0 : Fin 1) (Φ := fun p => cellsGhost cfgs (EP (F := F)) p d)).symm,
      show (bigSep Finset.univ fun d : Dev nD => toksInit cfgs (EP (F := F)) 0 d)
        = bigSep Finset.univ fun d : Dev nD => bigSep Finset.univ fun p : Fin 1 => toksInit cfgs (EP (F := F)) p d from
        bigSep_congr fun d _ => (bigSep_univ_of_subsingleton (0 : Fin 1) (Φ := fun p => toksInit cfgs (EP (F := F)) p d)).symm]
    isplitl [HC] <;> iassumption
  rw [show (bigSep Finset.univ fun thr : Thread nD τ => bigSep Finset.univ fun q : Fin 1 => (P (F := F) fw fe fo).x q thr) = bigSep Finset.univ fun _ => iprop(emp) from
    bigSep_congr fun _ _ => bigSep_univ_of_subsingleton (0 : Fin 1), bigSep_emp']
  iempintro

end Pay

end Cert.Proof.Tile
-- ==== Proof.Main.lean ====
/-
  The host program on the TensorCore: the reshapes, the SparseCore call, then the TensorCore kernel.
-/
module

public import proofs.«01_k».proof.Proof.Call

@[expose] public section

set_option maxRecDepth 16384

noncomputable section

namespace Cert.Proof.Tile

open Cert.KernelIdeal Cert.KernelIdeal.Gen Cert.Proof.Launch Cert.Proof.Pool Cert.Proof.Offsets

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.Pipeline (cellsGhost toksInit ucRefs)
open Idealize.ShloMosaic.StableHlo (held seq after)

variable (m : (ℓ : Loc nD τ sig) → Buf (Elt F) ℓ) (ρ : Dev nD → PrngReg)

/-- The reshapes the host program opens with. -/
def hostOps : List (HloOp τ sig (Elt F)) := [
  StableHlo.reshape main_arg0 main_v0 (rfl : (.i32 : EltTy) = .i32) shapeCasts_S1024x200_S2048x100,
  StableHlo.reshape main_arg3 main_v1 (rfl : (.f32 : EltTy) = .f32) shapeCasts_S512_S1x512,
  StableHlo.reshape main_arg4 main_v2 (rfl : (.f32 : EltTy) = .f32) shapeCasts_S512_S1x512,
  StableHlo.reshape main_arg5 main_v3 (rfl : (.f32 : EltTy) = .f32) shapeCasts_S512_S1x512,
  StableHlo.reshape main_arg6 main_v4 (rfl : (.f32 : EltTy) = .f32) shapeCasts_S512_S1x512,
  StableHlo.reshape main_arg7 main_v5 (rfl : (.f32 : EltTy) = .f32) shapeCasts_S512_S1x512,
  StableHlo.reshape main_arg9 main_v6 (rfl : (.f32 : EltTy) = .f32) shapeCasts_S512_S1x512,
  StableHlo.reshape main_arg10 main_v7 (rfl : (.f32 : EltTy) = .f32) shapeCasts_S512_S1x512,
  StableHlo.reshape main_arg11 main_v8 (rfl : (.f32 : EltTy) = .f32) shapeCasts_S512_S1x512,
  StableHlo.reshape main_arg12 main_v9 (rfl : (.f32 : EltTy) = .f32) shapeCasts_S512_S1x512,
  StableHlo.reshape main_arg13 main_v10 (rfl : (.f32 : EltTy) = .f32) shapeCasts_S512_S1x512,
  StableHlo.reshape main_arg15 main_v11 (rfl : (.f32 : EltTy) = .f32) shapeCasts_S1000_S1x1000,
  StableHlo.reshape main_arg16 main_v12 (rfl : (.f32 : EltTy) = .f32) shapeCasts_S1000_S1x1000,
  StableHlo.reshape main_arg17 main_v13 (rfl : (.f32 : EltTy) = .f32) shapeCasts_S1000_S1x1000,
  StableHlo.reshape main_arg18 main_v14 (rfl : (.f32 : EltTy) = .f32) shapeCasts_S1000_S1x1000,
  StableHlo.reshape main_arg19 main_v15 (rfl : (.f32 : EltTy) = .f32) shapeCasts_S1000_S1x1000]

theorem hostOps_sub : ∀ op ∈ (hostOps : List (HloOp τ sig (Elt F))), op.bufs ⊆ ucRefs τ sig := fun op h =>
  Pipeline.sub_ucRefs op (by simp only [hostOps, List.mem_cons, List.not_mem_nil, or_false] at h; rcases h with h | h | h | h | h | h | h | h | h | h | h | h | h | h | h | h <;> subst h <;> exact StableHlo.reshape_bufs_sub ..)

theorem hostOps_fresh : ∀ op ∈ (hostOps : List (HloOp τ sig (Elt F))), op.fresh = ∅ := fun op h => by
  simp only [hostOps, List.mem_cons, List.not_mem_nil, or_false] at h
  rcases h with h | h | h | h | h | h | h | h | h | h | h | h | h | h | h | h <;> subst h <;> rfl

theorem main_eq (d : Dev nD) : main (F := F) d = (seq hostOps >>= fun _ => (K (F := F)).run d 0 >>= fun _ =>
    (Prog.lift (.customCall (SparseCore.inner (Pipeline.entry 0)) ()) >>= fun _ => pure ⟨⟩)) := by
  simp only [main, hostOps, seq, bind_assoc, pure_bind]

/-- The device's tensors at launch, -/
def V0 (d : Dev nD) : Valuation τ sig (Elt F) := fun b => m (d, b)
/-- after the reshapes, -/
def V1 (d : Dev nD) : Valuation τ sig (Elt F) := after hostOps (V0 m d)
/-- the lists of words, the table and the rows to fill as the SparseCore call meets them, -/
def fwAt (d : Dev nD) : Buf (Elt F) (lLoc d) := V1 m d (Proc.devRef .tc main_v0)
def feAt (d : Dev nD) : Buf (Elt F) (eLoc d) := V1 m d (Proc.devRef .tc main_arg1)
def foAt (d : Dev nD) : Buf (Elt F) (pLoc d) := V1 m d (Proc.devRef .tc main_v16)
/-- and all of them after that call. -/
def V2 (d : Dev nD) : Valuation τ sig (Elt F) :=
  Function.update (V1 m d) (Proc.devRef .tc main_v16) (pooledRows (feAt m d) (fwAt m d))

/-- The three tensors the call takes. -/
def callRefs : Finset (DevRef τ sig) := {Proc.devRef .tc main_v0, Proc.devRef .tc main_arg1, Proc.devRef .tc main_v16}

theorem callRefs_sub : callRefs ⊆ ucRefs τ sig := by
  intro b hb
  simp only [callRefs, Finset.mem_insert, Finset.mem_singleton] at hb
  rcases hb with rfl | rfl | rfl <;>
    exact Finset.mem_filter.mpr ⟨StableHlo.devRef_mem_tcRefs _, by decide⟩

theorem held_call (d : Dev nD) (W : Valuation τ sig (Elt F)) :
    (held (d.tc : Thread nD τ) callRefs W : sProp (𝕄 F))
      = iprop((lLoc d ↦{fullShare} W (Proc.devRef .tc main_v0)) ∗ (eLoc d ↦{fullShare} W (Proc.devRef .tc main_arg1))
          ∗ (pLoc d ↦{fullShare} W (Proc.devRef .tc main_v16))) := by
  unfold held callRefs
  rw [SparseCore.bigSep_insert' (by decide), SparseCore.bigSep_insert' (by decide), bigSep_singleton]

theorem V2_pooled (d : Dev nD) : V2 m d (Proc.devRef .tc main_v16) = pooledRows (feAt m d) (fwAt m d) := by
  unfold V2; exact Function.update_self ..

theorem V2_ne (d : Dev nD) (b : DevRef τ sig) (h : b ≠ Proc.devRef .tc main_v16) : V2 m d b = V1 m d b := by
  unfold V2; exact Function.update_of_ne h ..

/-- Before the call: the three tensors beside the rest. -/
theorem held_before (d : Dev nD) : (held (d.tc : Thread nD τ) (ucRefs τ sig) (after hostOps (V0 m d)) : sProp (𝕄 F))
    = iprop(((lLoc d ↦{fullShare} fwAt m d) ∗ (eLoc d ↦{fullShare} feAt m d) ∗ (pLoc d ↦{fullShare} foAt m d))
        ∗ held (d.tc : Thread nD τ) (ucRefs τ sig \ callRefs) (V1 m d)) := by
  rw [show after hostOps (V0 m d) = V1 m d from rfl, StableHlo.held_sub_split _ callRefs_sub, held_call]; rfl

/-- After it: the same with the rows pooled. -/
theorem held_after (d : Dev nD) : (held (d.tc : Thread nD τ) (ucRefs τ sig) (V2 m d) : sProp (𝕄 F))
    = iprop(((lLoc d ↦{fullShare} fwAt m d) ∗ (eLoc d ↦{fullShare} feAt m d) ∗ (pLoc d ↦{fullShare} pooledRows (feAt m d) (fwAt m d)))
        ∗ held (d.tc : Thread nD τ) (ucRefs τ sig \ callRefs) (V1 m d)) := by
  rw [StableHlo.held_sub_split _ callRefs_sub, held_call, V2_pooled, V2_ne m d _ (by decide), V2_ne m d _ (by decide),
    StableHlo.held_congr (V := V2 m d) (V' := V1 m d) _ fun b hb => V2_ne m d b fun h =>
      (Finset.mem_sdiff.mp hb).2 (h ▸ by simp only [callRefs, Finset.mem_insert, Finset.mem_singleton, or_true])]
  rfl

/-! ## The TensorCore's thread state after the call -/

/-- What the TensorCore holds of the handshakes once its one call is over. -/
def tcLeft (d : Dev nD) : sProp (𝕄 F) :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (Q := 1) (N := 1) q)) 1)))

theorem tcSt_one (d : Dev nD) : ((K (F := F)).tcSt EH d ((0 : Fin 1).val + 1) : sProp (𝕄 F)) = iprop(lowOwes d ∗ tcLeft d) := by
  unfold SparseCore.Cfg.tcSt lowOwes tcLeft
  rw [(K (F := F)).Otc_end d (show 1 ≤ (0 : Fin 1).val + 1 from le_refl 1)]; rfl

/-- What the host program ends with: every unscoped tensor, at the values the TensorCore kernel leaves. -/
abbrev FIN (d : Dev nD) : sProp (𝕄 F) := held (d.tc : Thread nD τ) (ucRefs τ sig) (Vend (V2 m) d)

instance : (EP (F := F)).LandsIn (upEmb : UEmb _ (𝕄 F)) := by unfold EP embR; infer_instance

/-- The pipeline's staging semaphores are distinct. -/
theorem cells_inj : Function.Injective (Pipeline.cellOf (nD := nD) (τ := τ) (Pipeline.pin (pcfgs (F := F)) adm)) := cellOf_inj

set_option backward.isDefEq.respectTransparency.types false in
/-- The TensorCore kernel under the pipelines' own body table. -/
theorem wp_entry [∀ e, Nonempty (Elt F e)] (d : Dev nD) (Q : PUnit → sProp (𝕄 F)) :
    iprop((iprop(boundary (d.tc : Thread nD τ) ∗ (reg (V2 m)).post d) -∗
          wp frame (wpE (D (F := F)) 𝒱 (d.tc : Thread nD τ) none) Set.univ (Prog.ret PUnit.unit) Q)
        ∗ boundary (d.tc : Thread nD τ) ∗ (reg (V2 m)).pre d ∗ levAts (K (F := F)).L (K (F := F)).lev
        ∗ cellsGhost (Pipeline.pin (pcfgs (F := F)) adm) EP 0 d ∗ toksInit (Pipeline.pin (pcfgs (F := F)) adm) EP 0 d)
      ⊢ wp frame (wpE (D (F := F)) 𝒱 (d.tc : Thread nD τ) none) Set.univ
          (.op (.customCall (Pipeline.entry 0) ()) fun _ => .ret ⟨⟩) Q := by
  have h := Pipeline.RegionSeg.wp (pcfgs (F := F)) adm (dats (V2 m)) none cells_inj (EP (F := F)) defs₀ 𝒱₀ (K (F := F)).L (K (F := F)).lev
    (reg (V2 m)) d none (fun u hu => nomatch hu) (fun _ => .ret ⟨⟩) Q
  exact h

theorem pre_eq (d : Dev nD) : (reg (V2 m)).pre d = (iprop(held (d.tc : Thread nD τ) (ucRefs τ sig) (V2 m d) ∗ lowOwes d) : sProp (𝕄 F)) := rfl
theorem post_eq (d : Dev nD) : (reg (V2 m)).post d = (iprop(held (d.tc : Thread nD τ) (ucRefs τ sig) (Vend (V2 m) d) ∗ lowOwes d) : sProp (𝕄 F)) := rfl

/-- The call of the TensorCore kernel is the pipelines' own call, lifted. -/
theorem lift_entry : (Prog.lift (.customCall (SparseCore.inner (Pipeline.entry 0)) ()) :
      Prog (TpuEff nD τ sig (Elt F) (SparseCore.Sig (ΛP (F := F)) 1) .tc) PUnit)
    = SparseCore.liftProg (.op (.customCall (Pipeline.entry 0) ()) fun _ => .ret ⟨⟩) := rfl

theorem X_eq (d : Dev nD) : (X d : sProp (𝕄 F))
    = iprop(cellsGhost (Pipeline.pin (pcfgs (F := F)) adm) EP 0 d ∗ toksInit (Pipeline.pin (pcfgs (F := F)) adm) EP 0 d) := rfl

theorem wand_ret (d : Dev nD) (A : sProp (𝕄 F)) (Q : PUnit → sProp (𝕄 F)) :
    iprop(A -∗ Q ⟨⟩) ⊢ iprop(A -∗ wp frame (wpE (D (F := F)) 𝒱 (d.tc : Thread nD τ) none) Set.univ (Prog.ret PUnit.unit) Q) := by
  iintro Hk HA
  irw [wp_ret]
  imodintro
  iapply Hk
  iexact HA

/-- The TensorCore kernel, entered from the host program. -/
theorem wp_region [∀ e, Nonempty (Elt F e)] (d : Dev nD) (Q : PUnit → sProp (𝕄 F)) :
    iprop((iprop(boundary (d.tc : Thread nD τ) ∗ held (d.tc : Thread nD τ) (ucRefs τ sig) (Vend (V2 m) d) ∗ lowOwes d) -∗ Q ⟨⟩)
        ∗ boundary (d.tc : Thread nD τ) ∗ (held (d.tc : Thread nD τ) (ucRefs τ sig) (V2 m d) ∗ lowOwes d)
        ∗ levAts (K (F := F)).L (K (F := F)).lev ∗ X d)
      ⊢ wp frame (wpE ((K (F := F)).defs (D (F := F))) 𝒱 (SparseCore.T d) none) Set.univ
          (Prog.lift (.customCall (SparseCore.inner (Pipeline.entry 0)) ())) Q := by
  have h := wp_entry m d Q
  rw [pre_eq, post_eq, ← X_eq] at h
  rw [lift_entry]
  refine BI.Entails.trans ?_ ((K (F := F)).wp_liftProg (D (F := F)) 𝒱 (SparseCore.T d) Set.univ none _ Q)
  exact BI.Entails.trans (sep_mono_left (wand_ret d _ Q)) h

/-- The whole host program on device `d`'s TensorCore. -/
theorem hmain [∀ e, Nonempty (Elt F e)] (κ : GSem nD τ sig → ℕ) (d : Dev nD) :
    iprop((K (F := F)).ctx EH (P (fwAt m) (feAt m) (foAt m)) κ ∗ (K (F := F)).tcSt EH d 0 ∗ (K (F := F)).tcRes m ρ d ∗ X d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp (𝕄 F)) = held (d.tc : Thread nD τ) (ucRefs τ sig) (V0 m d)
    from Pipeline.unscopedBufs_held d (V0 m d)]
  iintro ⟨#Hctx, Hst, ⟨Hb, Hbufs, Hts, -⟩, HX⟩
  iapply (StableHlo.wp_seq (𝒱 := 𝒱) (defs := (K (F := F)).defs (D (F := F))) (E := Set.univ) (bd := none) d (ucRefs τ sig) _ hostOps hostOps_sub hostOps_fresh (V0 m d)) $$ [Hb Hbufs]
  · isplitl [Hb] <;> iassumption
  iintro ⟨Hb, Hbufs⟩
  ihave H := (Entails.of_eq (held_before m d)) $$ Hbufs
  icases H with ⟨Hthree, Hrest⟩
  irw [wp_bind]
  iapply ((K (F := F)).wp_run (D (F := F)) 𝒱 (EH := EH) (P := P (fwAt m) (feAt m) (foAt m)) κ d 0) $$ [Hst Hthree Hb Hts Hrest HX]
  isplitr; · iexact Hctx
  isplitl [Hst]; · iexact Hst
  isplitl [Hthree]
  · irw [st_eq]; iexact Hthree
  iintro ⟨Hst, Hdn⟩
  ihave Hthree := (Entails.of_eq (dn_eq (fwAt m) (feAt m) (foAt m) d)) $$ Hdn
  ihave H := (Entails.of_eq (tcSt_one (F := F) d)) $$ Hst
  icases H with ⟨HO, Hleft⟩
  ihave #Hlv := ((K (F := F)).ctx_levAts (EH := EH) (P := P (fwAt m) (feAt m) (foAt m)) κ) $$ Hctx
  irw [wp_bind]
  iapply (wp_region m d _) $$ [Hthree HO Hleft Hb Hts Hrest HX]
  isplitl [Hleft Hts]
  · iintro ⟨Hb, Hfin, HO⟩
    irw [wp_pure]
    imodintro
    isplitl [HO Hleft]
    · iapply (Entails.of_eq (tcSt_one (F := F) d).symm); isplitl [HO] <;> iassumption
    isplitl [Hfin]; · iexact Hfin
    isplitl [Hb] <;> iassumption
  isplitl [Hb]; · iexact Hb
  isplitl [Hthree Hrest HO]
  · isplitr [HO]
    · irw [held_after]; isplitl [Hthree] <;> iassumption
    iexact HO
  isplitr; · iexact Hlv
  iexact HX

end Cert.Proof.Tile
-- ==== Proof.Run.lean ====
/-
  The whole program's run: every tensor of the host program ends at the value the TensorCore kernel leaves it.
-/
module

public import proofs.«01_k».proof.Proof.Main

@[expose] public section

set_option maxRecDepth 16384

noncomputable section

namespace Cert.Proof.Tile

open Cert.KernelIdeal Cert.KernelIdeal.Gen Cert.Proof.Launch Cert.Proof.Pool Cert.Proof.Offsets

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.Pipeline (cellsGhost toksInit ucRefs)
open Idealize.ShloMosaic.StableHlo (held seq after)

variable (m : (ℓ : Loc nD τ sig) → Buf (Elt F) ℓ) (ρ : Dev nD → PrngReg)

/-- What a final state shows of device `d`'s tensors. -/
def fq (d : Dev nD) (s' : Phys nD τ sig (Elt F)) : Prop := ∀ b ∈ ucRefs τ sig, s'.mem.mem (d, b) = Vend (V2 m) d b

theorem hfin (d : Dev nD) (s' : Phys nD τ sig (Elt F)) : iprop(FIN m d ∗ SI s') ⊢ (⌜fq m d s'⌝ : sProp (𝕄 F)) := by
  by_cases hq : fq m d s'
  case pos => exact BIClass.pure_intro hq
  unfold fq at hq
  push Not at hq
  obtain ⟨b, hb, hne⟩ := hq
  have h : (FIN m d : sProp (𝕄 F)) ⊢ ((d, b) : Loc nD τ sig) ↦{fullShare} Vend (V2 m) d b := by
    unfold FIN held
    exact bigSep_elim hb
  iintro ⟨H, HSI⟩
  ihave Hp := h $$ H
  ihave H := (SI_pointsTo_agree (st := s') (ℓ := ((d, b) : Loc nD τ sig)) (I := Finset.univ) (q := fullShare) (f := Vend (V2 m) d b)) $$ [HSI Hp]
  · isplitl [HSI] <;> iassumption
  icases H with %h
  exact absurd (funext fun i => h i (Finset.mem_univ i)) hne

/-- The run ends with every tensor as `Vend` has it and every semaphore at zero. -/
def QC : PUnit × MemSt nD τ sig (Elt F) → Prop := fun r =>
  (∀ d : Dev nD, ∀ b ∈ ucRefs τ sig, r.2.mem (d, b) = Vend (V2 m) d b) ∧ r.2.sem = fun _ => 0

theorem run_main [∀ e, Nonempty (Elt F e)] (hpre : ∀ d j, (fwAt m d j).toNat < 1000000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (fwAt m) (feAt m) (foAt m)) (A := ∅) facts v₀
    (fun q hq => match q with | 0 => nomatch hq)
    (fun q _ => match q with | 0 => tileObl (fwAt m) (feAt m) (foAt m) hpre)
    (fun q _ => match q with | 0 => SparseCore.Cfg.VecSplit.of_plain (vecSplit (fwAt m) (feAt m) (foAt m)))
    m ρ main (fun d => X d) (FIN m) (u₀ (F := F)) (sep_elim_left.trans (hu₀ (fwAt m) (feAt m) (foAt m))) (hmain m ρ) (fq m) (hfin m) (QC m)
    (fun _ h hz => ⟨h, hz⟩)

/-! ## What the run keeps -/

/-- The tensors the reshapes write. -/
def written : List (Ref sig .tc) :=
  [main_v0, main_v1, main_v2, main_v3, main_v4, main_v5, main_v6, main_v7, main_v8, main_v9, main_v10, main_v11, main_v12, main_v13, main_v14, main_v15]

theorem V1_kept (d : Dev nD) (b : Ref sig .tc) (h : b ∉ written) : V1 m d (Proc.devRef .tc b) = m (d, Proc.devRef .tc b) := by
  unfold V1
  refine StableHlo.after_of_writes_sub (W := written) hostOps (V0 m d) ?_ h
  simp only [hostOps, List.Forall, StableHlo.reshape_writes, written]
  decide

theorem V2_kept (d : Dev nD) (b : Ref sig .tc) (h : b ∉ written) (h' : b ≠ main_v16) : V2 m d (Proc.devRef .tc b) = m (d, Proc.devRef .tc b) := by
  rw [V2_ne m d _ fun e => h' (Proc.devRef_injective .tc e), V1_kept m d b h]

/-- A tensor the TensorCore kernel does not fill ends as that kernel met it. -/
theorem Vend_ne (V : Vals F) (d : Dev nD) (b : Ref sig .tc) (h : b ≠ main_v17) : Vend V d (Proc.devRef .tc b) = V d (Proc.devRef .tc b) := by
  unfold Vend
  by_cases hw : ∃ w, b = Pipeline.arrRef spec1 w
  · obtain ⟨w, rfl⟩ := hw
    have hne : w ≠ 19 := fun e => h (by subst e; rfl)
    rw [Pipeline.afterRegion_arr _ _ launch1.win.arr_inj]
    rw [Pipeline.Dat.arrAt_in _ _ (isOut_in w hne)]
    exact A_eq V d w
  · exact Pipeline.afterRegion_of_not_arr _ _ fun w e => hw ⟨w, e⟩

/-- An argument of the program ends as it began. -/
theorem arg_kept (d : Dev nD) (b : Ref sig .tc) (h : b ∉ written) (h' : b ≠ main_v16) (h'' : b ≠ main_v17) :
    Vend (V2 m) d (Proc.devRef .tc b) = m (d, Proc.devRef .tc b) := by
  rw [Vend_ne _ d b h'', V2_kept m d b h h']

theorem mem_uc (b : Ref sig .tc) (h : b.isScoped = false) : (Proc.devRef .tc b : DevRef τ sig) ∈ ucRefs τ sig :=
  Finset.mem_filter.mpr ⟨StableHlo.devRef_mem_tcRefs _, by simpa using h⟩

end Cert.Proof.Tile
-- ==== Proof.Frames.lean ====
/-
  The program's frame: it runs from any memory whose words index the table, keeps its arguments and returns every semaphore to zero.
-/
module

public import proofs.«01_k».proof.Proof.Run
public import proofs.«01_k».proof.Proof.Gen.Pre_words_in_range
public import Idealize.ShloMosaic.Lib.ReduceAll
public import Idealize.ShloMosaic.Lib.StableHlo.Predicate

@[expose] public section

set_option maxRecDepth 16384

noncomputable section

namespace Cert.Proof.Tile

open Cert.KernelIdeal Cert.KernelIdeal.Gen Cert.Proof.Launch Cert.Proof.Pool Cert.Proof.Offsets

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.Pipeline (cellsGhost toksInit ucRefs)
open Idealize.ShloMosaic.StableHlo (held seq after)

variable (m : (ℓ : Loc nD τ sig) → Buf (Elt F) ℓ) (ρ : Dev nD → PrngReg) (d : Dev nD)

/-! ## What the reshapes write -/

theorem V1_v0 : V1 m d (Proc.devRef .tc main_v0) = (shapeCast S2048x100 (m (d, Proc.devRef .tc main_arg0)) shapeCasts_S1024x200_S2048x100 : (IVec S2048x100 32)) := by
  unfold V1 hostOps; after_results_simp; rfl
theorem V1_v1 : V1 m d (Proc.devRef .tc main_v1) = (shapeCast S1x512 (m (d, Proc.devRef .tc main_arg3)) shapeCasts_S512_S1x512 : (FVec F S1x512 .f32)) := by
  unfold V1 hostOps; after_results_simp; rfl
theorem V1_v2 : V1 m d (Proc.devRef .tc main_v2) = (shapeCast S1x512 (m (d, Proc.devRef .tc main_arg4)) shapeCasts_S512_S1x512 : (FVec F S1x512 .f32)) := by
  unfold V1 hostOps; after_results_simp; rfl
theorem V1_v3 : V1 m d (Proc.devRef .tc main_v3) = (shapeCast S1x512 (m (d, Proc.devRef .tc main_arg5)) shapeCasts_S512_S1x512 : (FVec F S1x512 .f32)) := by
  unfold V1 hostOps; after_results_simp; rfl
theorem V1_v4 : V1 m d (Proc.devRef .tc main_v4) = (shapeCast S1x512 (m (d, Proc.devRef .tc main_arg6)) shapeCasts_S512_S1x512 : (FVec F S1x512 .f32)) := by
  unfold V1 hostOps; after_results_simp; rfl
theorem V1_v5 : V1 m d (Proc.devRef .tc main_v5) = (shapeCast S1x512 (m (d, Proc.devRef .tc main_arg7)) shapeCasts_S512_S1x512 : (FVec F S1x512 .f32)) := by
  unfold V1 hostOps; after_results_simp; rfl
theorem V1_v6 : V1 m d (Proc.devRef .tc main_v6) = (shapeCast S1x512 (m (d, Proc.devRef .tc main_arg9)) shapeCasts_S512_S1x512 : (FVec F S1x512 .f32)) := by
  unfold V1 hostOps; after_results_simp; rfl
theorem V1_v7 : V1 m d (Proc.devRef .tc main_v7) = (shapeCast S1x512 (m (d, Proc.devRef .tc main_arg10)) shapeCasts_S512_S1x512 : (FVec F S1x512 .f32)) := by
  unfold V1 hostOps; after_results_simp; rfl
theorem V1_v8 : V1 m d (Proc.devRef .tc main_v8) = (shapeCast S1x512 (m (d, Proc.devRef .tc main_arg11)) shapeCasts_S512_S1x512 : (FVec F S1x512 .f32)) := by
  unfold V1 hostOps; after_results_simp; rfl
theorem V1_v9 : V1 m d (Proc.devRef .tc main_v9) = (shapeCast S1x512 (m (d, Proc.devRef .tc main_arg12)) shapeCasts_S512_S1x512 : (FVec F S1x512 .f32)) := by
  unfold V1 hostOps; after_results_simp; rfl
theorem V1_v10 : V1 m d (Proc.devRef .tc main_v10) = (shapeCast S1x512 (m (d, Proc.devRef .tc main_arg13)) shapeCasts_S512_S1x512 : (FVec F S1x512 .f32)) := by
  unfold V1 hostOps; after_results_simp; rfl
theorem V1_v11 : V1 m d (Proc.devRef .tc main_v11) = (shapeCast S1x1000 (m (d, Proc.devRef .tc main_arg15)) shapeCasts_S1000_S1x1000 : (FVec F S1x1000 .f32)) := by
  unfold V1 hostOps; after_results_simp; rfl
theorem V1_v12 : V1 m d (Proc.devRef .tc main_v12) = (shapeCast S1x1000 (m (d, Proc.devRef .tc main_arg16)) shapeCasts_S1000_S1x1000 : (FVec F S1x1000 .f32)) := by
  unfold V1 hostOps; after_results_simp; rfl
theorem V1_v13 : V1 m d (Proc.devRef .tc main_v13) = (shapeCast S1x1000 (m (d, Proc.devRef .tc main_arg17)) shapeCasts_S1000_S1x1000 : (FVec F S1x1000 .f32)) := by
  unfold V1 hostOps; after_results_simp; rfl
theorem V1_v14 : V1 m d (Proc.devRef .tc main_v14) = (shapeCast S1x1000 (m (d, Proc.devRef .tc main_arg18)) shapeCasts_S1000_S1x1000 : (FVec F S1x1000 .f32)) := by
  unfold V1 hostOps; after_results_simp; rfl
theorem V1_v15 : V1 m d (Proc.devRef .tc main_v15) = (shapeCast S1x1000 (m (d, Proc.devRef .tc main_arg19)) shapeCasts_S1000_S1x1000 : (FVec F S1x1000 .f32)) := by
  unfold V1 hostOps; after_results_simp; rfl

/-! ## The words index the table -/

/-- A word between 0 and `10⁶ - 1` as a signed number is below `10⁶`. -/
theorem word_lt (v : BitVec 32) (e : IntOp.andi (IntOp.cmpi .sge v 0#32) (IntOp.cmpi .slt v 1000000#32) = 1#1) : v.toNat < 1000000 := by
  obtain ⟨h0, h1⟩ := IntOp.andi_eq_one.1 e
  simp only [IntOp.cmpi, BitVec.sle_eq_decide, BitVec.slt_eq_decide, BitVec.toInt_eq_toNat_cond, BitVec.toNat_ofNat, Nat.reducePow,
    Nat.reduceMod, StableHlo.Predicate.ofBool_eq_one_iff, decide_eq_true_eq] at h0 h1
  omega

/-- The precondition, of the lists of words alone. -/
def InRange (w : IVec S1024x200 32) : Prop := ∀ i, (w i).toNat < 1000000

theorem inRange_of_pre (w : IVec S1024x200 32) (a1 a2 a3 a4 a5 a6 a7 a8 a9 a10 a11 a12 a13 a14 a15 a16 a17 a18 a19)
    (h : Cert.Pre_words_in_range.fn (F := F) w a1 a2 a3 a4 a5 a6 a7 a8 a9 a10 a11 a12 a13 a14 a15 a16 a17 a18 a19 = fun _ => 1#1) : InRange w := by
  intro i
  have e := congrFun h (Shape.Idx.first (by decide))
  haveI : Subsingleton Cert.Pre_words_in_range.S_.Idx := ⟨fun a b => funext fun k => k.elim0⟩
  exact word_lt _ (Host.reduce_andi_all _ _ _ _ _ e i)

theorem fwAt_lt (h : ∀ d : Dev nD, InRange (m (d, Proc.devRef .tc main_arg0))) (d : Dev nD) (j) : (fwAt m d j).toNat < 1000000 := by
  unfold fwAt
  rw [V1_v0]
  exact h d _

/-- The twenty arguments as they were. -/
abbrev Kept (m' : (ℓ : Loc nD τ sig) → Buf (Elt F) ℓ) : Prop :=
  m' ((d.tc : Thread nD τ).loc main_arg0) = m ((d.tc : Thread nD τ).loc main_arg0)
    ∧ m' ((d.tc : Thread nD τ).loc main_arg1) = m ((d.tc : Thread nD τ).loc main_arg1)
    ∧ m' ((d.tc : Thread nD τ).loc main_arg2) = m ((d.tc : Thread nD τ).loc main_arg2)
    ∧ m' ((d.tc : Thread nD τ).loc main_arg3) = m ((d.tc : Thread nD τ).loc main_arg3)
    ∧ m' ((d.tc : Thread nD τ).loc main_arg4) = m ((d.tc : Thread nD τ).loc main_arg4)
    ∧ m' ((d.tc : Thread nD τ).loc main_arg5) = m ((d.tc : Thread nD τ).loc main_arg5)
    ∧ m' ((d.tc : Thread nD τ).loc main_arg6) = m ((d.tc : Thread nD τ).loc main_arg6)
    ∧ m' ((d.tc : Thread nD τ).loc main_arg7) = m ((d.tc : Thread nD τ).loc main_arg7)
    ∧ m' ((d.tc : Thread nD τ).loc main_arg8) = m ((d.tc : Thread nD τ).loc main_arg8)
    ∧ m' ((d.tc : Thread nD τ).loc main_arg9) = m ((d.tc : Thread nD τ).loc main_arg9)
    ∧ m' ((d.tc : Thread nD τ).loc main_arg10) = m ((d.tc : Thread nD τ).loc main_arg10)
    ∧ m' ((d.tc : Thread nD τ).loc main_arg11) = m ((d.tc : Thread nD τ).loc main_arg11)
    ∧ m' ((d.tc : Thread nD τ).loc main_arg12) = m ((d.tc : Thread nD τ).loc main_arg12)
    ∧ m' ((d.tc : Thread nD τ).loc main_arg13) = m ((d.tc : Thread nD τ).loc main_arg13)
    ∧ m' ((d.tc : Thread nD τ).loc main_arg14) = m ((d.tc : Thread nD τ).loc main_arg14)
    ∧ m' ((d.tc : Thread nD τ).loc main_arg15) = m ((d.tc : Thread nD τ).loc main_arg15)
    ∧ m' ((d.tc : Thread nD τ).loc main_arg16) = m ((d.tc : Thread nD τ).loc main_arg16)
    ∧ m' ((d.tc : Thread nD τ).loc main_arg17) = m ((d.tc : Thread nD τ).loc main_arg17)
    ∧ m' ((d.tc : Thread nD τ).loc main_arg18) = m ((d.tc : Thread nD τ).loc main_arg18)
    ∧ m' ((d.tc : Thread nD τ).loc main_arg19) = m ((d.tc : Thread nD τ).loc main_arg19)

theorem kept_of (m' : (ℓ : Loc nD τ sig) → Buf (Elt F) ℓ) (h : ∀ b ∈ ucRefs τ sig, m' (d, b) = Vend (V2 m) d b) : Kept m d m' := by
  have key : ∀ b : Ref sig .tc, b.isScoped = false → b ∉ written → b ≠ main_v16 → b ≠ main_v17 →
      m' ((d.tc : Thread nD τ).loc b) = m ((d.tc : Thread nD τ).loc b) := fun b h0 h1 h2 h3 =>
    (h _ (mem_uc b h0)).trans (arg_kept m d b h1 h2 h3)
  exact ⟨key _ (by decide) (by decide) (by decide) (by decide), key _ (by decide) (by decide) (by decide) (by decide), key _ (by decide) (by decide) (by decide) (by decide), key _ (by decide) (by decide) (by decide) (by decide), key _ (by decide) (by decide) (by decide) (by decide), key _ (by decide) (by decide) (by decide) (by decide), key _ (by decide) (by decide) (by decide) (by decide), key _ (by decide) (by decide) (by decide) (by decide), key _ (by decide) (by decide) (by decide) (by decide), key _ (by decide) (by decide) (by decide) (by decide), key _ (by decide) (by decide) (by decide) (by decide), key _ (by decide) (by decide) (by decide) (by decide), key _ (by decide) (by decide) (by decide) (by decide), key _ (by decide) (by decide) (by decide) (by decide), key _ (by decide) (by decide) (by decide) (by decide), key _ (by decide) (by decide) (by decide) (by decide), key _ (by decide) (by decide) (by decide) (by decide), key _ (by decide) (by decide) (by decide) (by decide), key _ (by decide) (by decide) (by decide) (by decide), key _ (by decide) (by decide) (by decide) (by decide)⟩

theorem run_kept [∀ e, Nonempty (Elt F e)] (h : ∀ d : Dev nD, InRange (m (d, Proc.devRef .tc main_arg0))) :
    θ_run (Cert.KernelIdeal.defs (F := F)) (Cert.KernelIdeal.threads (F := F)) ⟨m, fun _ => 0, ρ⟩
      fun r => (∀ d, Kept m d r.2.mem) ∧ r.2.sem = fun _ => 0 :=
  (θ_run _ _ _).mono (fun r hr => ⟨fun d => kept_of m d r.2.mem (hr.1 d), hr.2⟩) (run_main m ρ (fwAt_lt m h))

end Cert.Proof.Tile
-- ==== Proof.Same.lean ====
/-
  The program at machine numbers and its idealization have one text: their body tables and threads are equal.
-/
module

public import proofs.«01_k».proof.Proof.Gen.Kernel
public import proofs.«01_k».proof.Proof.Gen.KernelIdeal
public import proofs.«01_k».proof.Defs

@[expose] public section

set_option maxRecDepth 16384
set_option maxHeartbeats 1000000

noncomputable section

namespace Cert.Proof.Same

open Idealize.ShloMosaic Idealize.SL.Sem

theorem pool_at (i j) (a) : Cert.Kernel.defs₀ (F := Bits) (.scVector i j) 0 a = Cert.KernelIdeal.defs₀ (F := Bits) (.scVector i j) 0 a := rfl
theorem mlp_at (t s) : Cert.Kernel.defs₀ (F := Bits) .tc 1 (t, s) = Cert.KernelIdeal.defs₀ (F := Bits) .tc 1 (t, s) := rfl

/-- A label on a processor that never runs it calls itself, in both tables. -/
theorem idle_tc (a) : Cert.Kernel.defs₀ (F := Bits) .tc 0 a = Cert.KernelIdeal.defs₀ (F := Bits) .tc 0 a := rfl
theorem idle_vector (i j) (a) : Cert.Kernel.defs₀ (F := Bits) (.scVector i j) 1 a = Cert.KernelIdeal.defs₀ (F := Bits) (.scVector i j) 1 a := rfl
theorem idle_scalar₀ (i) (a) : Cert.Kernel.defs₀ (F := Bits) (.scScalar i) 0 a = Cert.KernelIdeal.defs₀ (F := Bits) (.scScalar i) 0 a := rfl
theorem idle_scalar₁ (i) (a) : Cert.Kernel.defs₀ (F := Bits) (.scScalar i) 1 a = Cert.KernelIdeal.defs₀ (F := Bits) (.scScalar i) 1 a := rfl

theorem defs₀_at (p : Proc Cert.Kernel.τ) : ∀ (ℓ : Fin 2) (a), Cert.Kernel.defs₀ (F := Bits) p ℓ a = Cert.KernelIdeal.defs₀ (F := Bits) p ℓ a := by
  cases p with
  | tc => exact Fin.forall_fin_two.2 ⟨idle_tc, fun a => mlp_at a.1 a.2⟩
  | scScalar i => exact Fin.forall_fin_two.2 ⟨idle_scalar₀ i, idle_scalar₁ i⟩
  | scVector i j => exact Fin.forall_fin_two.2 ⟨pool_at i j, idle_vector i j⟩

theorem defs₀_eq : Cert.Kernel.defs₀ (F := Bits) = Cert.KernelIdeal.defs₀ (F := Bits) :=
  funext fun p => funext fun ℓ => funext fun a => defs₀_at p ℓ a

theorem sc_eq : Cert.Kernel.sc (F := Bits) = Cert.KernelIdeal.sc (F := Bits) := rfl

theorem defs_eq : Cert.Kernel.defs (F := Bits) = Cert.KernelIdeal.defs (F := Bits) :=
  congrArg (fun D => Cert.KernelIdeal.sc.defs (Pipeline.defs Cert.KernelIdeal.pcfgs D)) defs₀_eq

theorem main_eq : Cert.Kernel.main (F := Bits) = Cert.KernelIdeal.main (F := Bits) := rfl

theorem threads_eq : Cert.Kernel.threads (F := Bits) = Cert.KernelIdeal.threads (F := Bits) :=
  congrArg (fun M => Cert.KernelIdeal.sc.threads M) main_eq

end Cert.Proof.Same

end
-- ==== Proof.Layers.lean ====
/-
  The perceptron on one pooled row, over the extended reals: what a dense layer, a batch normalisation and an exponential linear unit are.
-/
module

public import Idealize.ShloMosaic.Lib.Pointwise

@[expose] public section

noncomputable section

namespace Cert.Proof.Layers

open Idealize.ShloMosaic

/-- The five rows of parameters of a layer with `n` outputs: bias, scale, shift, running mean and running variance. -/
structure Norm (n : ℕ) where
  bias : Fin n → EReal
  scale : Fin n → EReal
  shift : Fin n → EReal
  mean : Fin n → EReal
  var : Fin n → EReal

/-- The constant added to a variance, `1e-5` as a binary32 number. -/
def eps : EReal := Ideal.ofBits .f32 0x3727C5AC#32

/-- Output `c` of a layer from its product `z`: the bias added, then normalised, scaled and shifted. -/
def Norm.out {n : ℕ} (p : Norm n) (z : EReal) (c : Fin n) : EReal :=
  Ideal.div (z + p.bias c - p.mean c) (Ideal.sqrt (p.var c + eps)) * p.scale c + p.shift c

/-- The product of a row with a weight's row `c`. -/
def dense {n k : ℕ} (x : Fin n → EReal) (W : Fin k → Fin n → EReal) (c : Fin k) : EReal := ∑ i, x i * W c i

/-- The exponential linear unit. -/
def elu (h : EReal) : EReal := if 0 < h then h else Ideal.exp h - 1

/-- The three layers of a row. -/
def perceptron (x : Fin 128 → EReal) (W₁ : Fin 512 → Fin 128 → EReal) (p₁ : Norm 512) (W₂ : Fin 512 → Fin 512 → EReal) (p₂ : Norm 512)
    (W₃ : Fin 1000 → Fin 512 → EReal) (p₃ : Norm 1000) (c : Fin 1000) : EReal :=
  p₃.out (dense (fun k => elu (p₂.out (dense (fun i => elu (p₁.out (dense x W₁ i) i)) W₂ k) k)) W₃ c) c

end Cert.Proof.Layers
-- ==== Proof.Dense.lean ====
/-
  The perceptron's body of the TensorCore kernel, read at one element of its block.
-/
module

public import proofs.«01_k».proof.Proof.Layers
public import proofs.«01_k».proof.Proof.Mlp

@[expose] public section

set_option maxRecDepth 16384

noncomputable section

namespace Cert.Proof.Layers

open Cert.KernelIdeal Cert.KernelIdeal.Gen Idealize.ShloMosaic

/-- A layer's parameters from its five matrices of one row. -/
def rows {n : ℕ} (b g be mn vr : FVec Ideal ⟨2, ![1, n]⟩ .f32) : Norm n where
  bias c := b (ix2 0 c)
  scale c := g (ix2 0 c)
  shift c := be (ix2 0 c)
  mean c := mn (ix2 0 c)
  var c := vr (ix2 0 c)

theorem pay2_apply (x : FVec Ideal S512x128 .f32) (W₁ : FVec Ideal S512x128 .f32) (b g be mn vr : FVec Ideal S1x512 .f32)
    (W₂ : FVec Ideal S512x512 .f32) (r c : Fin 512) :
    k1_pay2 (F := Ideal) x W₁ b mn vr g be W₂ (ix2 r c) =
      dense (fun i => elu ((rows b g be mn vr).out (dense (fun k => x (ix2 r k)) (fun o k => W₁ (ix2 o k)) i) i))
        (fun o k => W₂ (ix2 o k)) c := by
  pointwise [k1_pay2, dense, elu, Norm.out, rows, eps]

theorem pay3_apply (z : FVec Ideal S512x512 .f32) (b g be mn vr : FVec Ideal S1x512 .f32) (W₃ : FVec Ideal S1000x512 .f32)
    (b₃ mn₃ : FVec Ideal S1x1000 .f32) (r : Fin 512) (c : Fin 1000) :
    k1_pay3 (F := Ideal) z b mn vr g be W₃ b₃ mn₃ (ix2 r c) =
      dense (fun i => elu ((rows b g be mn vr).out (z (ix2 r i)) i)) (fun o k => W₃ (ix2 o k)) c + b₃ (ix2 0 c) - mn₃ (ix2 0 c) := by
  pointwise [k1_pay3, dense, elu, Norm.out, rows, eps]

theorem pay1_apply (z : FVec Ideal S512x1000 .f32) (g be vr : FVec Ideal S1x1000 .f32) (r : Fin 512) (c : Fin 1000) :
    k1_pay1 (F := Ideal) z (k1_pay4 vr) g be (ix2 r c) =
      Ideal.div (z (ix2 r c)) (Ideal.sqrt (vr (ix2 0 c) + eps)) * g (ix2 0 c) + be (ix2 0 c) := by
  pointwise [k1_pay1, k1_pay4, eps]

/-- An element of the block that the body stores is the perceptron of its row of pooled values. -/
theorem mlpOut_apply (x : FVec Ideal S512x128 .f32) (W₁ : FVec Ideal S512x128 .f32) (W₂ : FVec Ideal S512x512 .f32) (W₃ : FVec Ideal S1000x512 .f32)
    (b₁ g₁ e₁ m₁ v₁ b₂ g₂ e₂ m₂ v₂ : FVec Ideal S1x512 .f32) (b₃ g₃ e₃ m₃ v₃ : FVec Ideal S1x1000 .f32) (r : Fin 512) (c : Fin 1000) :
    Tile.mlpOut (F := Ideal) x W₁ W₂ W₃ b₁ g₁ e₁ m₁ v₁ b₂ g₂ e₂ m₂ v₂ b₃ g₃ e₃ m₃ v₃ (ix2 r c) =
      perceptron (fun k => x (ix2 r k)) (fun o k => W₁ (ix2 o k)) (rows b₁ g₁ e₁ m₁ v₁) (fun o k => W₂ (ix2 o k)) (rows b₂ g₂ e₂ m₂ v₂)
        (fun o k => W₃ (ix2 o k)) (rows b₃ g₃ e₃ m₃ v₃) c := by
  unfold Tile.mlpOut
  rw [pay1_apply, pay3_apply]
  simp only [pay2_apply]
  rfl

end Cert.Proof.Layers
-- ==== Proof.Refer.lean ====
/-
  The reference program's three layers, read at one element.
-/
module

public import proofs.«01_k».proof.Proof.Layers
public import proofs.«01_k».proof.Proof.Gen.ReferenceIdeal.Run

@[expose] public section

set_option maxRecDepth 16384

noncomputable section

namespace Cert.Proof.Refer

open Cert.ReferenceIdeal Cert.ReferenceIdeal.Gen Idealize.ShloMosaic Idealize.ShloMosaic.StableHlo Cert.Proof.Layers

/-! ## The reference's term, in pieces -/

section Terms

variable {F : FTy → Type} [FloatOps F]

/-- The word of every position, a negative one counted from the table's end. -/
def wrapped (w : IVec S1024x200 32) : IVec S1024x200x1 32 :=
  broadcastInDim S1024x200x1 ![0, 1] bcast_S1024x200_S1024x200x1_0_1
    (select (cmpi .slt w (broadcastInDim S1024x200 ![] bcast_S_S1024x200 (constantI S_ 32 0#32)))
      (addi w (broadcastInDim S1024x200 ![] bcast_S_S1024x200 (constantI S_ 32 1000000#32))) w)

/-- Whether the word of a position indexes the table. -/
def inside (w : IVec S1024x200 32) : IVec S1024x200 1 :=
  Host.reduce IntOp.andi
    (andi (cmpi .sge (wrapped w) (broadcastInDim S1024x200x1 ![] bcast_S_S1024x200x1 (constantI S_ 32 0#32)))
      (cmpi .sle (wrapped w) (broadcastInDim S1024x200x1 ![0, 1, 2] bcast_S1x1x1_S1024x200x1_0_1_2
        (broadcastInDim S1x1x1 ![2] bcast_S1_S1x1x1_2 (constantI S1 32 999999#32)))))
    (constantI S_ 1 1#1) reducesTo_S1024x200x1_S1024x200_d2 h_S_

/-- The table's rows that the words name. -/
def taken (w : IVec S1024x200 32) (e : FVec F S1000000x128 .f32) : FVec F S1024x200x128 .f32 :=
  select (broadcastInDim S1024x200x128 ![0, 1] bcast_S1024x200_S1024x200x128_0_1 (inside w))
    (Host.gather gather_S1000000x128_S1024x200x1_S1024x200x128_2_0_n_n_0_2_1128 e (wrapped w))
    (broadcastInDim S1024x200x128 ![] bcast_S_S1024x200x128 (constant S_ .f32 0x7FC00000#32))

/-- The largest of a sentence's rows, column by column. -/
def largest (w : IVec S1024x200 32) (e : FVec F S1000000x128 .f32) : FVec F S1024x128 .f32 :=
  Host.reduce FloatOps.maximumf (taken w e) (constant S_ .f32 0xFF800000#32) reducesTo_S1024x200x128_S1024x128_d1 h_S_

/-- A row of 512 parameters, on every row of a matrix. -/
def spread (b : FVec F S512 .f32) : FVec F S1024x512 .f32 :=
  broadcastInDim S1024x512 ![0, 1] bcast_S1x512_S1024x512_0_1 (broadcastInDim S1x512 ![1] bcast_S512_S1x512_1 b)

/-- A row of 1000 parameters, on every row of a matrix. -/
def spread' (b : FVec F S1000 .f32) : FVec F S1024x1000 .f32 :=
  broadcastInDim S1024x1000 ![0, 1] bcast_S1x1000_S1024x1000_0_1 (broadcastInDim S1x1000 ![1] bcast_S1000_S1x1000_1 b)

/-- A hidden layer's normalisation of its product. -/
def hidden (z : FVec F S1024x512 .f32) (b g be mn vr : FVec F S512 .f32) : FVec F S1024x512 .f32 :=
  addf (mulf (Host.divf (subf (addf z (spread b)) (spread mn))
    (spread (Host.sqrt (addf vr (broadcastInDim S512 ![] bcast_S_S512 (constant S_ .f32 0x3727C5AC#32)))))) (spread g)) (spread be)

/-- The last layer's normalisation of its product. -/
def final (z : FVec F S1024x1000 .f32) (b g be mn vr : FVec F S1000 .f32) : FVec F S1024x1000 .f32 :=
  addf (mulf (Host.divf (subf (addf z (spread' b)) (spread' mn))
    (spread' (Host.sqrt (addf vr (broadcastInDim S1000 ![] bcast_S_S1000 (constant S_ .f32 0x3727C5AC#32)))))) (spread' g)) (spread' be)

/-- The exponential linear unit of every element. -/
def unit (h : FVec F S1024x512 .f32) : FVec F S1024x512 .f32 :=
  select (cmpf .ogt h (broadcastInDim S1024x512 ![] bcast_S_S1024x512 (constant S_ .f32 0x00000000#32))) h
    (mulf (broadcastInDim S1024x512 ![] bcast_S_S1024x512 (constant S_ .f32 0x3F800000#32))
      (Host.expm1 (select (cmpf .ogt h (broadcastInDim S1024x512 ![] bcast_S_S1024x512 (constant S_ .f32 0x00000000#32)))
        (broadcastInDim S1024x512 ![] bcast_S_S1024x512 (id (constant S_ .f32 0x00000000#32))) h)))

/-- The first product. -/
def prod₁ (x : FVec F S1024x128 .f32) (W : FVec F S512x128 .f32) : FVec F S1024x512 .f32 :=
  Host.dotGeneral dot_S1024x128_S128x512_S1024x512_1_0_0_1_n_n none x (transpose S128x512 [1, 0] W transposes_S512x128_S128x512_1_0)

/-- The second product. -/
def prod₂ (x : FVec F S1024x512 .f32) (W : FVec F S512x512 .f32) : FVec F S1024x512 .f32 :=
  Host.dotGeneral dot_S1024x512_S512x512_S1024x512_1_0_0_1_n_n none x (transpose S512x512 [1, 0] W transposes_S512x512_S512x512_1_0)

/-- The third product. -/
def prod₃ (x : FVec F S1024x512 .f32) (W : FVec F S1000x512 .f32) : FVec F S1024x1000 .f32 :=
  Host.dotGeneral dot_S1024x512_S512x1000_S1024x1000_1_0_0_1_n_n none x (transpose S512x1000 [1, 0] W transposes_S1000x512_S512x1000_1_0)

variable (m : (ℓ : Loc nD τ sig) → Buf (Elt F) ℓ) (c : Dev nD)

/-- An argument of the reference. -/
abbrev arg (b : Ref sig .tc) : Buf (Elt F) ((c.tc : Thread nD τ).loc b) := m ((c.tc : Thread nD τ).loc b)

/-- The reference's hidden layers. -/
def deep : FVec F S1024x512 .f32 :=
  unit (hidden (prod₂ (unit (hidden (prod₁ (largest (arg m c main_arg0) (arg m c main_arg1)) (arg m c main_arg2))
      (arg m c main_arg3) (arg m c main_arg4) (arg m c main_arg5) (arg m c main_arg6) (arg m c main_arg7))) (arg m c main_arg8))
    (arg m c main_arg9) (arg m c main_arg10) (arg m c main_arg11) (arg m c main_arg12) (arg m c main_arg13))

theorem res_eq_pieces : Value.res_main_v63 m c =
    final (prod₃ (deep m c) (arg m c main_arg14)) (arg m c main_arg15) (arg m c main_arg16) (arg m c main_arg17) (arg m c main_arg18) (arg m c main_arg19) := by
  unfold Value.res_main_v63 deep final unit hidden prod₁ prod₂ prod₃ largest taken inside wrapped spread spread'
  rfl

end Terms

/-! ## Each piece at an element -/

/-- A layer's parameters from its five rows. -/
def params {n : ℕ} (b g be mn vr : FVec Ideal ⟨1, ![n]⟩ .f32) : Norm n where
  bias c := b (ix1 c)
  scale c := g (ix1 c)
  shift c := be (ix1 c)
  mean c := mn (ix1 c)
  var c := vr (ix1 c)

theorem hidden_apply (z : FVec Ideal S1024x512 .f32) (b g be mn vr : FVec Ideal S512 .f32) (r : Fin 1024) (c : Fin 512) :
    hidden z b g be mn vr (ix2 r c) = (params b g be mn vr).out (z (ix2 r c)) c := by
  pointwise [hidden, spread, Norm.out, params, eps]

theorem final_apply (z : FVec Ideal S1024x1000 .f32) (b g be mn vr : FVec Ideal S1000 .f32) (r : Fin 1024) (c : Fin 1000) :
    final z b g be mn vr (ix2 r c) = (params b g be mn vr).out (z (ix2 r c)) c := by
  pointwise [final, spread', Norm.out, params, eps]

theorem unit_apply (h : FVec Ideal S1024x512 .f32) (r : Fin 1024) (c : Fin 512) : unit h (ix2 r c) = elu (h (ix2 r c)) := by
  pointwise [unit, elu]
  by_cases hh : 0 < h (ix2 r c)
  · rw [if_pos hh, if_pos hh]
  · rw [if_neg hh, if_neg hh, if_neg hh]

theorem prod₁_apply (x : FVec Ideal S1024x128 .f32) (W : FVec Ideal S512x128 .f32) (r : Fin 1024) (c : Fin 512) :
    prod₁ x W (ix2 r c) = dense (fun k => x (ix2 r k)) (fun o k => W (ix2 o k)) c := by
  pointwise [prod₁, dense]

theorem prod₂_apply (x : FVec Ideal S1024x512 .f32) (W : FVec Ideal S512x512 .f32) (r : Fin 1024) (c : Fin 512) :
    prod₂ x W (ix2 r c) = dense (fun k => x (ix2 r k)) (fun o k => W (ix2 o k)) c := by
  pointwise [prod₂, dense]

theorem prod₃_apply (x : FVec Ideal S1024x512 .f32) (W : FVec Ideal S1000x512 .f32) (r : Fin 1024) (c : Fin 1000) :
    prod₃ x W (ix2 r c) = dense (fun k => x (ix2 r k)) (fun o k => W (ix2 o k)) c := by
  pointwise [prod₃, dense]

/-- The reference's result at one element is the perceptron of its row of pooled values. -/
theorem res_apply (m : (ℓ : Loc nD τ sig) → Buf (Elt Ideal) ℓ) (d : Dev nD) (r : Fin 1024) (c : Fin 1000) :
    (Value.res_main_v63 m d : FVec Ideal S1024x1000 .f32) (ix2 r c) =
      perceptron (fun k => largest (F := Ideal) (arg m d main_arg0) (arg m d main_arg1) (ix2 r k))
        (fun o k => (arg m d main_arg2 : FVec Ideal S512x128 .f32) (ix2 o k))
        (params (arg m d main_arg3) (arg m d main_arg4) (arg m d main_arg5) (arg m d main_arg6) (arg m d main_arg7))
        (fun o k => (arg m d main_arg8 : FVec Ideal S512x512 .f32) (ix2 o k))
        (params (arg m d main_arg9) (arg m d main_arg10) (arg m d main_arg11) (arg m d main_arg12) (arg m d main_arg13))
        (fun o k => (arg m d main_arg14 : FVec Ideal S1000x512 .f32) (ix2 o k))
        (params (arg m d main_arg15) (arg m d main_arg16) (arg m d main_arg17) (arg m d main_arg18) (arg m d main_arg19)) c := by
  rw [res_eq_pieces, final_apply, prod₃_apply]
  unfold deep
  simp only [unit_apply, hidden_apply, prod₁_apply, prod₂_apply]
  rfl

end Cert.Proof.Refer
-- ==== Proof.Out.lean ====
/-
  The result that the program leaves: every element is the perceptron of its row of pooled values.
-/
module

public import proofs.«01_k».proof.Proof.Frames
public import proofs.«01_k».proof.Proof.Dense
public import proofs.«01_k».proof.Proof.Refer
public import Idealize.ShloMosaic.Lib.Pipeline.ValueKit.Geometry

@[expose] public section

set_option maxRecDepth 16384

noncomputable section

namespace Cert.Proof.Tile

open Cert.KernelIdeal Cert.KernelIdeal.Gen Cert.Proof.Launch Cert.Proof.Pool Cert.Proof.Offsets

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.Pipeline (cellsGhost toksInit ucRefs)
open Cert.Proof.Layers (mlpOut_apply perceptron)
open Cert.Proof.Refer (params)

/-! ## The blocks, read off their arrays -/

section Blocks

variable (Vd : Vals F) (c : Dev nD) (t : Fin cfg1.N)

/-- Where the blocks sit: a parameter's block is its array; the pooled rows' and the result's advance with the point. -/
theorem index_whole : ∀ (w : Fin cfg1.W) (t : Fin cfg1.N), w ≠ 0 → w ≠ 19 → ∀ a, (cfg1.win w).index t a = 0 := by decide +kernel

theorem index_rows : ∀ t : Fin cfg1.N, win1_0.index t = ![t.val, 0] := by decide +kernel

theorem index_out : ∀ t : Fin cfg1.N, win1_19.index t = ![t.val, 0] := by decide +kernel

/-- An element of a parameter's block has its own coordinates in the array. -/
theorem emb_whole (w : Fin cfg1.W) (h : w ≠ 0) (h' : w ≠ 19) (j : (cfg1.win w).block.Idx) (a : Fin (cfg1.win w).shape.rank) :
    (((cfg1.win w).rect t).emb (xin w _ j) a).val = (j a).val :=
  Pipeline.Window.rect_emb_val_of_index_zero (cfg1.win w) t a (index_whole w t h h' a) _

theorem iblk_1 : iblk Vd c 1 t = Vd c (Proc.devRef .tc main_arg2) :=
  funext fun j => congrArg (Vd c (Proc.devRef .tc main_arg2)) (funext fun a => Fin.ext (emb_whole t 1 (by decide) (by decide) j a))
theorem iblk_2 : iblk Vd c 2 t = Vd c (Proc.devRef .tc main_arg8) :=
  funext fun j => congrArg (Vd c (Proc.devRef .tc main_arg8)) (funext fun a => Fin.ext (emb_whole t 2 (by decide) (by decide) j a))
theorem iblk_3 : iblk Vd c 3 t = Vd c (Proc.devRef .tc main_arg14) :=
  funext fun j => congrArg (Vd c (Proc.devRef .tc main_arg14)) (funext fun a => Fin.ext (emb_whole t 3 (by decide) (by decide) j a))
theorem iblk_4 : iblk Vd c 4 t = Vd c (Proc.devRef .tc main_v1) :=
  funext fun j => congrArg (Vd c (Proc.devRef .tc main_v1)) (funext fun a => Fin.ext (emb_whole t 4 (by decide) (by decide) j a))
theorem iblk_5 : iblk Vd c 5 t = Vd c (Proc.devRef .tc main_v2) :=
  funext fun j => congrArg (Vd c (Proc.devRef .tc main_v2)) (funext fun a => Fin.ext (emb_whole t 5 (by decide) (by decide) j a))
theorem iblk_6 : iblk Vd c 6 t = Vd c (Proc.devRef .tc main_v3) :=
  funext fun j => congrArg (Vd c (Proc.devRef .tc main_v3)) (funext fun a => Fin.ext (emb_whole t 6 (by decide) (by decide) j a))
theorem iblk_7 : iblk Vd c 7 t = Vd c (Proc.devRef .tc main_v4) :=
  funext fun j => congrArg (Vd c (Proc.devRef .tc main_v4)) (funext fun a => Fin.ext (emb_whole t 7 (by decide) (by decide) j a))
theorem iblk_8 : iblk Vd c 8 t = Vd c (Proc.devRef .tc main_v5) :=
  funext fun j => congrArg (Vd c (Proc.devRef .tc main_v5)) (funext fun a => Fin.ext (emb_whole t 8 (by decide) (by decide) j a))
theorem iblk_9 : iblk Vd c 9 t = Vd c (Proc.devRef .tc main_v6) :=
  funext fun j => congrArg (Vd c (Proc.devRef .tc main_v6)) (funext fun a => Fin.ext (emb_whole t 9 (by decide) (by decide) j a))
theorem iblk_10 : iblk Vd c 10 t = Vd c (Proc.devRef .tc main_v7) :=
  funext fun j => congrArg (Vd c (Proc.devRef .tc main_v7)) (funext fun a => Fin.ext (emb_whole t 10 (by decide) (by decide) j a))
theorem iblk_11 : iblk Vd c 11 t = Vd c (Proc.devRef .tc main_v8) :=
  funext fun j => congrArg (Vd c (Proc.devRef .tc main_v8)) (funext fun a => Fin.ext (emb_whole t 11 (by decide) (by decide) j a))
theorem iblk_12 : iblk Vd c 12 t = Vd c (Proc.devRef .tc main_v9) :=
  funext fun j => congrArg (Vd c (Proc.devRef .tc main_v9)) (funext fun a => Fin.ext (emb_whole t 12 (by decide) (by decide) j a))
theorem iblk_13 : iblk Vd c 13 t = Vd c (Proc.devRef .tc main_v10) :=
  funext fun j => congrArg (Vd c (Proc.devRef .tc main_v10)) (funext fun a => Fin.ext (emb_whole t 13 (by decide) (by decide) j a))
theorem iblk_14 : iblk Vd c 14 t = Vd c (Proc.devRef .tc main_v11) :=
  funext fun j => congrArg (Vd c (Proc.devRef .tc main_v11)) (funext fun a => Fin.ext (emb_whole t 14 (by decide) (by decide) j a))
theorem iblk_15 : iblk Vd c 15 t = Vd c (Proc.devRef .tc main_v12) :=
  funext fun j => congrArg (Vd c (Proc.devRef .tc main_v12)) (funext fun a => Fin.ext (emb_whole t 15 (by decide) (by decide) j a))
theorem iblk_16 : iblk Vd c 16 t = Vd c (Proc.devRef .tc main_v13) :=
  funext fun j => congrArg (Vd c (Proc.devRef .tc main_v13)) (funext fun a => Fin.ext (emb_whole t 16 (by decide) (by decide) j a))
theorem iblk_17 : iblk Vd c 17 t = Vd c (Proc.devRef .tc main_v14) :=
  funext fun j => congrArg (Vd c (Proc.devRef .tc main_v14)) (funext fun a => Fin.ext (emb_whole t 17 (by decide) (by decide) j a))
theorem iblk_18 : iblk Vd c 18 t = Vd c (Proc.devRef .tc main_v15) :=
  funext fun j => congrArg (Vd c (Proc.devRef .tc main_v15)) (funext fun a => Fin.ext (emb_whole t 18 (by decide) (by decide) j a))

/-- The point's pooled rows are rows `512 t` to `512 t + 511`. -/
theorem iblk_0 (r : Fin 512) (k : Fin 128) (R : Fin 1024) (hR : R.val = t.val * 512 + r.val) :
    iblk Vd c 0 t (ix2 r k) = Vd c (Proc.devRef .tc main_v16) (ix2 R k) := by
  refine congrArg (Vd c (Proc.devRef .tc main_v16)) (funext fun a => Fin.ext ?_)
  refine (Pipeline.Window.rect_emb_val (cfg1.win 0) t _ a).trans ?_
  show win1_0.index t a * win1_0.size a + _ = _
  rw [index_rows]
  match a with
  | ⟨0, _⟩ => exact hR.symm
  | ⟨1, _⟩ => exact Nat.zero_add _

end Blocks

/-! ## The result -/

/-- A layer's rows of parameters, reshaped into matrices of one row. -/
theorem rows_cast {n : ℕ} (b g e mn vr : FVec Ideal ⟨1, ![n]⟩ .f32) (h : (⟨1, ![n]⟩ : Shape).ShapeCasts ⟨2, ![1, n]⟩) :
    Layers.rows (shapeCast ⟨2, ![1, n]⟩ b h) (shapeCast ⟨2, ![1, n]⟩ g h) (shapeCast ⟨2, ![1, n]⟩ e h) (shapeCast ⟨2, ![1, n]⟩ mn h) (shapeCast ⟨2, ![1, n]⟩ vr h)
      = params b g e mn vr := by
  have hx : ∀ (x : FVec Ideal ⟨1, ![n]⟩ .f32) (c : Fin n), shapeCast ⟨2, ![1, n]⟩ x h (ix2 0 c) = x (ix1 c) := fun x c =>
    shapeCast_apply x _ _ _ ((Shape.rowMajor_val_one (d := ![n]) _).trans (.trans (by show c.val = 0 * n + c.val; omega) (Shape.rowMajor_val_two (d := ![1, n]) _).symm))
  unfold Layers.rows params
  simp only [hx]

variable (m : (ℓ : Loc nD τ sig) → Buf (Elt F) ℓ) (ρ : Dev nD → PrngReg) (d : Dev nD)

theorem V2_row (b : Ref sig .tc) (h : b ≠ main_v16) : V2 m d (Proc.devRef .tc b) = V1 m d (Proc.devRef .tc b) :=
  V2_ne m d _ fun e => h (Proc.devRef_injective .tc e)

/-- The result when the program has ended. -/
def outAt : Buf (Elt F) ((d.tc : Thread nD τ).loc main_v17) := Vend (V2 m) d (Proc.devRef .tc main_v17)

theorem run_value [∀ e, Nonempty (Elt F e)] (h : ∀ d : Dev nD, InRange (m (d, Proc.devRef .tc main_arg0))) :
    θ_run (Cert.KernelIdeal.defs (F := F)) (Cert.KernelIdeal.threads (F := F)) ⟨m, fun _ => 0, ρ⟩ fun r => (∀ d : Dev nD, r.2.mem ((d.tc : Thread nD τ).loc main_v17) = outAt m d) ∧ ∀ d : Dev nD, Kept m d r.2.mem :=
  (θ_run _ _ _).mono (fun r hr => ⟨fun d => hr.1 d _ (mem_uc main_v17 rfl), fun d => kept_of m d r.2.mem (hr.1 d)⟩) (run_main m ρ (fwAt_lt m h))

/-- The perceptron of every pooled row. -/
def value (m : (ℓ : Loc nD τ sig) → Buf (Elt Ideal) ℓ) (d : Dev nD) : FVec Ideal S1024x1000 .f32 := fun i =>
  perceptron (fun k => pooledRows (feAt m d) (fwAt m d) (ix2 (i 0) k))
    (fun o k => (m (d, Proc.devRef .tc main_arg2) : FVec Ideal S512x128 .f32) (ix2 o k))
    (params (m (d, Proc.devRef .tc main_arg3)) (m (d, Proc.devRef .tc main_arg4)) (m (d, Proc.devRef .tc main_arg5)) (m (d, Proc.devRef .tc main_arg6)) (m (d, Proc.devRef .tc main_arg7)))
    (fun o k => (m (d, Proc.devRef .tc main_arg8) : FVec Ideal S512x512 .f32) (ix2 o k))
    (params (m (d, Proc.devRef .tc main_arg9)) (m (d, Proc.devRef .tc main_arg10)) (m (d, Proc.devRef .tc main_arg11)) (m (d, Proc.devRef .tc main_arg12)) (m (d, Proc.devRef .tc main_arg13)))
    (fun o k => (m (d, Proc.devRef .tc main_arg14) : FVec Ideal S1000x512 .f32) (ix2 o k))
    (params (m (d, Proc.devRef .tc main_arg15)) (m (d, Proc.devRef .tc main_arg16)) (m (d, Proc.devRef .tc main_arg17)) (m (d, Proc.devRef .tc main_arg18)) (m (d, Proc.devRef .tc main_arg19)))
    (i 1)

/-- What the body stores at a point, at one element. -/
theorem oblk_apply (m : (ℓ : Loc nD τ sig) → Buf (Elt Ideal) ℓ) (d : Dev nD) (t : Fin cfg1.N) (r : Fin 512) (o : Fin 1000) (R : Fin 1024)
    (hR : R.val = t.val * 512 + r.val) : oblk (V2 m) d t (ix2 r o) = value m d (ix2 R o) := by
  unfold oblk
  rw [mlpOut_apply]
  simp only [iblk_0 (V2 m) d t r _ R hR, iblk_1, iblk_2, iblk_3, iblk_4, iblk_5, iblk_6, iblk_7, iblk_8, iblk_9, iblk_10, iblk_11, iblk_12, iblk_13, iblk_14, iblk_15, iblk_16, iblk_17, iblk_18]
  rw [V2_pooled]
  rw [V2_kept m d main_arg2 (by decide) (by decide)]
  rw [V2_kept m d main_arg8 (by decide) (by decide)]
  rw [V2_kept m d main_arg14 (by decide) (by decide)]
  rw [V2_row m d main_v1 (by decide), V1_v1, V2_row m d main_v2 (by decide), V1_v2, V2_row m d main_v3 (by decide), V1_v3, V2_row m d main_v4 (by decide), V1_v4, V2_row m d main_v5 (by decide), V1_v5, V2_row m d main_v6 (by decide), V1_v6, V2_row m d main_v7 (by decide), V1_v7, V2_row m d main_v8 (by decide), V1_v8, V2_row m d main_v9 (by decide), V1_v9, V2_row m d main_v10 (by decide), V1_v10, V2_row m d main_v11 (by decide), V1_v11, V2_row m d main_v12 (by decide), V1_v12, V2_row m d main_v13 (by decide), V1_v13, V2_row m d main_v14 (by decide), V1_v14, V2_row m d main_v15 (by decide), V1_v15]
  rw [rows_cast, rows_cast, rows_cast]
  rfl

theorem outAt_eq (m : (ℓ : Loc nD τ sig) → Buf (Elt Ideal) ℓ) (d : Dev nD) : outAt m d = value m d := by
  refine (Pipeline.afterRegion_arr (dats (V2 m) 0 d) (V2 m d) launch1.win.arr_inj 19).trans ?_
  refine (dats (V2 m) 0 d).arrAt_eq_of_covers 19 (value m d) (by decide +kernel) fun t hf y => ?_
  blk_simp
  rw [after_out]
  have ht : t.val < 2 := t.isLt
  have h0 : (y 0).val < 512 := (y 0).isLt
  have h1 : (y 1).val < 1000 := (y 1).isLt
  have hy : y = (ix2 ⟨(y 0).val, h0⟩ ⟨(y 1).val, h1⟩ : S512x1000.Idx) := funext fun a => by
    match a with
    | ⟨0, _⟩ => rfl
    | ⟨1, _⟩ => rfl
  refine (congrArg (oblk (V2 m) d t) hy).trans ((oblk_apply m d t _ _ ⟨t.val * 512 + (y 0).val, by omega⟩ rfl).trans (congrArg (value m d) (funext fun a => Fin.ext ?_)))
  refine Eq.trans ?_ (Pipeline.Window.rect_emb_val (cfg1.win 19) t y a).symm
  show _ = win1_19.index t a * win1_19.size a + _
  rw [index_out]
  match a with
  | ⟨0, _⟩ => rfl
  | ⟨1, _⟩ => exact (Nat.zero_add _).symm

end Cert.Proof.Tile
-- ==== Proof.Largest.lean ====
/-
  The reference's pooled rows: the words index the table, so the gather reads the rows they name; the largest of a sentence's
  two hundred rows is the larger of its two halves' maxima, which is what the tiles compute.
-/
module

public import proofs.«01_k».proof.Proof.Refer
public import proofs.«01_k».proof.Proof.Blocks
public import Idealize.ShloMosaic.Lib.ReduceAll
public import Idealize.ShloMosaic.Lib.StableHlo.Predicate
public import Idealize.ShloMosaic.Lib.Tactic.WordOmega

@[expose] public section

set_option maxRecDepth 16384

noncomputable section

namespace Cert.Proof.Refer

open Cert.ReferenceIdeal Cert.ReferenceIdeal.Gen Idealize.ShloMosaic Idealize.ShloMosaic.StableHlo
open Cert.Proof.Pool (gath colMax part pooled)

/-! ## The gather -/

/-- The dimension numbers of the reference's gather. -/
abbrev rowDims : GatherDims S1000000x128 S1024x200x1 S1024x200x128 := gather_S1000000x128_S1024x200x1_S1024x200x128_2_0_n_n_0_2_1128

/-- The gather at an element: the table's row at the start index, held within the table. -/
theorem gather_row {α : Type} (x : S1000000x128.Idx → α) (idx : IVec S1024x200x1 32) (r : Fin 1024) (k : Fin 200) (c : Fin 128) :
    Host.gather rowDims x idx (ix3 r k c) = x (ix2 ⟨min (idx (ix3 r k 0)).toInt.toNat 999999, by omega⟩ c) := by
  unfold Host.gather
  congr 1
  refine funext fun a => Fin.ext ?_
  show GatherDims.start rowDims _ idx a + GatherDims.batchCoord rowDims _ a + GatherDims.offCoord rowDims _ a = _
  rw [GatherDims.batchCoord_eq_zero _ _ _ List.not_mem_nil, Nat.add_zero]
  obtain rfl | rfl : a = (0 : Fin 2) ∨ a = (1 : Fin 2) := by
    match a with
    | ⟨0, _⟩ => exact .inl rfl
    | ⟨1, _⟩ => exact .inr rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ GatherDims.startIndexMap rowDims from List.mem_singleton.mpr rfl)]
    have hsi : GatherDims.siIdx rowDims (ix3 r k c) ⟨List.idxOf (0 : Fin 2) (GatherDims.startIndexMap rowDims), List.idxOf_lt_length_iff.2 (List.mem_singleton.mpr rfl)⟩ = ix3 r k 0 :=
      funext fun b => Fin.ext (by match b with | ⟨0, _⟩ => rfl | ⟨1, _⟩ => rfl | ⟨2, _⟩ => rfl)
    rw [hsi]
    rfl
  · unfold GatherDims.start GatherDims.offCoord
    rw [dif_neg (show ¬(1 : Fin 2) ∈ GatherDims.startIndexMap rowDims by decide), dif_pos (show (1 : Fin 2) ∈ GatherDims.sKept rowDims by decide), Nat.zero_add]
    rfl

/-! ## Words that index the table -/

theorem slt_zero (x : BitVec 32) (h : x.toNat < 1000000) : IntOp.cmpi CmpIPredicate.slt x 0#32 = 0#1 := by
  word_omega

theorem within (x : BitVec 32) (h : x.toNat < 1000000) :
    IntOp.andi (IntOp.cmpi CmpIPredicate.sge x 0#32) (IntOp.cmpi CmpIPredicate.sle x 999999#32) = 1#1 := by
  word_omega

theorem wrapped_apply (w : IVec S1024x200 32) (r : Fin 1024) (k : Fin 200) (h : (w (ix2 r k)).toNat < 1000000) :
    wrapped w (ix3 r k 0) = w (ix2 r k) := by
  pointwise [wrapped]
  rw [slt_zero _ h]; rfl

variable (w : IVec S1024x200 32) (hw : ∀ i, (w i).toNat < 1000000)
include hw

theorem inside_eq (i : S1024x200.Idx) : inside w i = 1#1 := by
  unfold inside
  refine Host.reduce_andi_one _ _ _ _ _ rfl fun j => ?_
  idx_vars j
  obtain rfl : j2 = 0 := Subsingleton.elim _ _
  pointwise
  rw [wrapped_apply w _ _ (hw _)]
  exact within _ (hw _)

theorem taken_apply (e : FVec Ideal S1000000x128 .f32) (r : Fin 1024) (k : Fin 200) (c : Fin 128) :
    taken w e (ix3 r k c) = e (ix2 (Fin.ofNat 1000000 (w (ix2 r k)).toNat) c) := by
  pointwise [taken]
  rw [inside_eq w hw, gather_row]
  refine congrArg (fun a => e (ix2 a c)) (Fin.ext ?_)
  have h := hw (ix2 r k)
  show min (wrapped w (ix3 r k 0)).toInt.toNat 999999 = (w (ix2 r k)).toNat % 1000000
  rw [wrapped_apply w _ _ h, BitVec.toInt_eq_toNat_of_lt (by omega)]
  omega

omit hw

/-! ## The maximum -/

theorem bot_word : Ideal.ofBits FTy.f32 0xFF800000#32 = ⊥ := by
  simp [Ideal.ofBits, Ideal.ieee]

/-- A running maximum is at most `b` exactly when every row it has taken in is. -/
theorem colMax_le (f : KernelIdeal.S100x128.Idx → EReal) (j : Fin 128) (b : EReal) :
    ∀ n : ℕ, colMax (F := Ideal) f n j ≤ b ↔ ∀ i : ℕ, i ≤ n → f (ix2 (Fin.ofNat 100 i) j) ≤ b
  | 0 => ⟨fun h i hi => by obtain rfl := Nat.le_zero.mp hi; exact h, fun h => h 0 le_rfl⟩
  | n + 1 => by
    refine (max_le_iff (a := colMax (F := Ideal) f n j)).trans ?_
    rw [colMax_le f j b n]
    refine ⟨fun h i hi => ?_, fun h => ⟨fun i hi => h i (by omega), h (n + 1) le_rfl⟩⟩
    obtain hi | rfl := Nat.lt_or_eq_of_le hi
    · exact h.1 i (by omega)
    · exact h.2

theorem part_le (e : FVec Ideal S1000000x128 .f32) (l : Fin 100 → BitVec 32) (j : Fin 128) (b : EReal) :
    part (F := Ideal) e l j ≤ b ↔ ∀ i : Fin 100, e (ix2 (Fin.ofNat 1000000 (l i).toNat) j) ≤ b := by
  refine (colMax_le _ j b 99).trans ⟨fun h i => ?_, fun h i _ => h _⟩
  have h' := h i.val (by omega)
  rwa [show Fin.ofNat 100 i.val = i from Fin.ext (Nat.mod_eq_of_lt i.isLt)] at h'

/-- Word `i` of half `p` of a sentence's two lists of a hundred. -/
theorem list_word (hc : S1024x200.ShapeCasts KernelIdeal.S2048x100) (r : Fin 1024) (p : ℕ) (hp : p < 2) (i : Fin 100) :
    (shapeCast KernelIdeal.S2048x100 w hc : IVec KernelIdeal.S2048x100 32) (ix2 (Fin.ofNat 2048 (2 * r.val + p)) i) = w (ix2 r ⟨100 * p + i.val, by omega⟩) := by
  refine shapeCast_apply w _ _ _ ((Shape.rowMajor_val_two (d := ![1024, 200]) _).trans (.trans ?_ (Shape.rowMajor_val_two (d := ![2048, 100]) _).symm))
  show r.val * 200 + (100 * p + i.val) = (2 * r.val + p) % 2048 * 100 + i.val
  omega

include hw

/-- The reference's largest row is the tiles' pooled row. -/
theorem largest_apply (hc : S1024x200.ShapeCasts KernelIdeal.S2048x100) (e : FVec Ideal S1000000x128 .f32) (r : Fin 1024) (j : Fin 128) :
    largest w e (ix2 r j) = Tile.pooledRows (F := Ideal) e (shapeCast KernelIdeal.S2048x100 w hc) (ix2 r j) := by
  refine eq_of_forall_ge_iff fun b => ?_
  pointwise [largest]
  rw [bot_word, Finset.fold_max_le]
  unfold Tile.pooledRows pooled
  refine Iff.trans ?_ (max_le_iff (a := part (F := Ideal) _ _ _)).symm
  refine Iff.trans ?_ (and_congr (part_le e _ j b) (part_le e _ j b)).symm
  simp only [taken_apply w hw]
  have hl : ∀ (p : ℕ) (hp : p < 2) (i : Fin 100), e (ix2 (Fin.ofNat 1000000 ((shapeCast KernelIdeal.S2048x100 w hc : IVec KernelIdeal.S2048x100 32) (ix2 (Fin.ofNat 2048 (2 * r.val + p)) i)).toNat) j) =
      e (ix2 (Fin.ofNat 1000000 (w (ix2 r ⟨100 * p + i.val, by omega⟩)).toNat) j) :=
    fun p hp i => congrArg (fun x : BitVec 32 => e (ix2 (Fin.ofNat 1000000 x.toNat) j)) (list_word w hc r p hp i)
  constructor
  · rintro ⟨-, h⟩
    exact ⟨fun i => (hl 0 (by omega) i).trans_le (h _ (Finset.mem_univ _)), fun i => (hl 1 (by omega) i).trans_le (h _ (Finset.mem_univ _))⟩
  · rintro ⟨h₀, h₁⟩
    refine ⟨bot_le, fun k _ => ?_⟩
    have hk := k.isLt
    by_cases hk' : k.val < 100
    · have h := (hl 0 (by omega) ⟨k.val, hk'⟩).symm.trans_le (h₀ _)
      simpa only [Nat.mul_zero, Nat.zero_add] using h
    · have h := (hl 1 (by omega) ⟨k.val - 100, by omega⟩).symm.trans_le (h₁ _)
      rwa [show (⟨100 * 1 + (k.val - 100), by omega⟩ : Fin 200) = k from Fin.ext (by show 100 * 1 + (k.val - 100) = k.val; omega)] at h

end Cert.Proof.Refer
-- ==== Proof.Equal.lean ====
/-
  The two results are equal, element by element.
-/
module

public import proofs.«01_k».proof.Proof.Out
public import proofs.«01_k».proof.Proof.Largest

@[expose] public section

set_option maxRecDepth 16384

noncomputable section

namespace Cert.Proof.Tile

open Idealize.ShloMosaic

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (d : Dev KernelIdeal.nD)

/-- The two programs start from the same arguments. -/
abbrev Agree : Prop :=
  m' ((d.tc : Thread ReferenceIdeal.nD ReferenceIdeal.τ).loc ReferenceIdeal.main_arg0) = m ((d.tc : Thread KernelIdeal.nD KernelIdeal.τ).loc KernelIdeal.main_arg0)
    ∧ m' ((d.tc : Thread ReferenceIdeal.nD ReferenceIdeal.τ).loc ReferenceIdeal.main_arg1) = m ((d.tc : Thread KernelIdeal.nD KernelIdeal.τ).loc KernelIdeal.main_arg1)
    ∧ m' ((d.tc : Thread ReferenceIdeal.nD ReferenceIdeal.τ).loc ReferenceIdeal.main_arg2) = m ((d.tc : Thread KernelIdeal.nD KernelIdeal.τ).loc KernelIdeal.main_arg2)
    ∧ m' ((d.tc : Thread ReferenceIdeal.nD ReferenceIdeal.τ).loc ReferenceIdeal.main_arg3) = m ((d.tc : Thread KernelIdeal.nD KernelIdeal.τ).loc KernelIdeal.main_arg3)
    ∧ m' ((d.tc : Thread ReferenceIdeal.nD ReferenceIdeal.τ).loc ReferenceIdeal.main_arg4) = m ((d.tc : Thread KernelIdeal.nD KernelIdeal.τ).loc KernelIdeal.main_arg4)
    ∧ m' ((d.tc : Thread ReferenceIdeal.nD ReferenceIdeal.τ).loc ReferenceIdeal.main_arg5) = m ((d.tc : Thread KernelIdeal.nD KernelIdeal.τ).loc KernelIdeal.main_arg5)
    ∧ m' ((d.tc : Thread ReferenceIdeal.nD ReferenceIdeal.τ).loc ReferenceIdeal.main_arg6) = m ((d.tc : Thread KernelIdeal.nD KernelIdeal.τ).loc KernelIdeal.main_arg6)
    ∧ m' ((d.tc : Thread ReferenceIdeal.nD ReferenceIdeal.τ).loc ReferenceIdeal.main_arg7) = m ((d.tc : Thread KernelIdeal.nD KernelIdeal.τ).loc KernelIdeal.main_arg7)
    ∧ m' ((d.tc : Thread ReferenceIdeal.nD ReferenceIdeal.τ).loc ReferenceIdeal.main_arg8) = m ((d.tc : Thread KernelIdeal.nD KernelIdeal.τ).loc KernelIdeal.main_arg8)
    ∧ m' ((d.tc : Thread ReferenceIdeal.nD ReferenceIdeal.τ).loc ReferenceIdeal.main_arg9) = m ((d.tc : Thread KernelIdeal.nD KernelIdeal.τ).loc KernelIdeal.main_arg9)
    ∧ m' ((d.tc : Thread ReferenceIdeal.nD ReferenceIdeal.τ).loc ReferenceIdeal.main_arg10) = m ((d.tc : Thread KernelIdeal.nD KernelIdeal.τ).loc KernelIdeal.main_arg10)
    ∧ m' ((d.tc : Thread ReferenceIdeal.nD ReferenceIdeal.τ).loc ReferenceIdeal.main_arg11) = m ((d.tc : Thread KernelIdeal.nD KernelIdeal.τ).loc KernelIdeal.main_arg11)
    ∧ m' ((d.tc : Thread ReferenceIdeal.nD ReferenceIdeal.τ).loc ReferenceIdeal.main_arg12) = m ((d.tc : Thread KernelIdeal.nD KernelIdeal.τ).loc KernelIdeal.main_arg12)
    ∧ m' ((d.tc : Thread ReferenceIdeal.nD ReferenceIdeal.τ).loc ReferenceIdeal.main_arg13) = m ((d.tc : Thread KernelIdeal.nD KernelIdeal.τ).loc KernelIdeal.main_arg13)
    ∧ m' ((d.tc : Thread ReferenceIdeal.nD ReferenceIdeal.τ).loc ReferenceIdeal.main_arg14) = m ((d.tc : Thread KernelIdeal.nD KernelIdeal.τ).loc KernelIdeal.main_arg14)
    ∧ m' ((d.tc : Thread ReferenceIdeal.nD ReferenceIdeal.τ).loc ReferenceIdeal.main_arg15) = m ((d.tc : Thread KernelIdeal.nD KernelIdeal.τ).loc KernelIdeal.main_arg15)
    ∧ m' ((d.tc : Thread ReferenceIdeal.nD ReferenceIdeal.τ).loc ReferenceIdeal.main_arg16) = m ((d.tc : Thread KernelIdeal.nD KernelIdeal.τ).loc KernelIdeal.main_arg16)
    ∧ m' ((d.tc : Thread ReferenceIdeal.nD ReferenceIdeal.τ).loc ReferenceIdeal.main_arg17) = m ((d.tc : Thread KernelIdeal.nD KernelIdeal.τ).loc KernelIdeal.main_arg17)
    ∧ m' ((d.tc : Thread ReferenceIdeal.nD ReferenceIdeal.τ).loc ReferenceIdeal.main_arg18) = m ((d.tc : Thread KernelIdeal.nD KernelIdeal.τ).loc KernelIdeal.main_arg18)
    ∧ m' ((d.tc : Thread ReferenceIdeal.nD ReferenceIdeal.τ).loc ReferenceIdeal.main_arg19) = m ((d.tc : Thread KernelIdeal.nD KernelIdeal.τ).loc KernelIdeal.main_arg19)

/-- The pooled rows are those of the words and of the table. -/
theorem pooled_args : pooledRows (feAt m d) (fwAt m d) = pooledRows (F := Ideal) (m (d, Proc.devRef .tc KernelIdeal.main_arg1))
    (shapeCast KernelIdeal.S2048x100 (m (d, Proc.devRef .tc KernelIdeal.main_arg0)) KernelIdeal.Gen.shapeCasts_S1024x200_S2048x100) := by
  unfold feAt fwAt
  rw [V1_v0, V1_kept m d KernelIdeal.main_arg1 (by decide)]

/-- The reference's result is the program's. -/
theorem res_eq (hw : InRange (m (d, Proc.devRef .tc KernelIdeal.main_arg0))) (h : Agree m m' d) :
    ReferenceIdeal.Value.res_main_v63 m' d = outAt m d := by
  obtain ⟨h0, h1, h2, h3, h4, h5, h6, h7, h8, h9, h10, h11, h12, h13, h14, h15, h16, h17, h18, h19⟩ := h
  rw [outAt_eq]
  refine funext fun i => ?_
  obtain ⟨r, c, rfl⟩ : ∃ (r : Fin 1024) (c : Fin 1000), i = ix2 r c := ⟨i 0, i 1, eq_ix2 i⟩
  refine (Refer.res_apply m' d r c).trans ?_
  unfold Refer.arg value
  rw [h0, h1, h2, h3, h4, h5, h6, h7, h8, h9, h10, h11, h12, h13, h14, h15, h16, h17, h18, h19, pooled_args]
  simp only [Refer.largest_apply _ hw KernelIdeal.Gen.shapeCasts_S1024x200_S2048x100]
  rfl

end Cert.Proof.Tile
-- ==== Proof.lean ====
/-
  The certificate: the program's frames at machine numbers and at real ones, the reference's frames, and that the two
  compute the same result in exact arithmetic.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_words_in_range
public import proofs.«01_k».proof.Proof.Frames
public import proofs.«01_k».proof.Proof.Same
public import proofs.«01_k».proof.Proof.Equal
public import Idealize.ShloMosaic.Adequacy
public import Idealize.ShloMosaic.Init

@[expose] public section

set_option maxRecDepth 16384
set_option maxHeartbeats 2000000

noncomputable section

namespace Cert.Proof

open Idealize.ShloMosaic Idealize.SL.Sem

/-- The kernel at machine numbers; its text is the idealized program's, so the one run serves both. -/
theorem frame_kernel : Cert.quiescent_Kernel := fun m ρ hpre => by
  rw [Same.defs_eq, Same.threads_eq]
  exact (θ_run Cert.KernelIdeal.defs _ _).mono (fun _ h => h)
    (Tile.run_kept (F := Bits) m ρ fun d => Tile.inRange_of_pre (F := Bits) _ _ _ _ _ _ _ _ _ _ _ _ _ _ _ _ _ _ _ _ (hpre d))

theorem frame_ideal : Cert.quiescent_KernelIdeal := fun m ρ hpre =>
  (θ_run Cert.KernelIdeal.defs _ _).mono (fun _ h => h)
    (Tile.run_kept (F := Ideal) m ρ fun d => Tile.inRange_of_pre (F := Ideal) _ _ _ _ _ _ _ _ _ _ _ _ _ _ _ _ _ _ _ _ (hpre d))

/-- The reference is a straight line of tensor operations; it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

theorem frame_reference_pre : Cert.quiescent_ReferenceIdeal_pre_words_in_range := fun m ρ _ => frame_reference m ρ trivial

/-- The two results agree, each program read at its run. -/
theorem algebraic : Cert.algebraic_KernelIdeal_ReferenceIdeal := fun m ρ m' ρ' hpre hag => by
  have hin : ∀ d, Tile.InRange (m (d, Proc.devRef .tc Cert.KernelIdeal.main_arg0)) := fun d =>
    Tile.inRange_of_pre (F := Ideal) _ _ _ _ _ _ _ _ _ _ _ _ _ _ _ _ _ _ _ _ (hpre d)
  refine ⟨fun c => Tile.outAt m c, (θ_run Cert.KernelIdeal.defs _ _).mono (fun r h c => ⟨h.1 c, h.2 c⟩) (Tile.run_value m ρ hin), ?_⟩
  exact (θ_run Cert.ReferenceIdeal.defs _ _).mono
    (fun r h c => ⟨((h c).1).trans (Tile.res_eq m m' c (hin c) (hag c)), (h c).2⟩) (Cert.ReferenceIdeal.Value.run m' ρ')

/-- `Cert.Claim` (Defs.lean). -/
theorem claim : Cert.Claim :=
  ⟨Cert.Kernel.Gen.facts, Cert.KernelIdeal.Gen.facts, Cert.ReferenceIdeal.Gen.facts, Cert.Pre_words_in_range.Gen.facts,
    frame_kernel, frame_ideal, frame_reference, frame_reference_pre, trivial, algebraic⟩

end Cert.Proof

end
